-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S1x2048x1024 : Shape := ⟨3, ![1, 2048, 1024]⟩
abbrev S1x1x1x2048 : Shape := ⟨4, ![1, 1, 1, 2048]⟩
abbrev S1024x1024 : Shape := ⟨2, ![1024, 1024]⟩
abbrev S1024 : Shape := ⟨1, ![1024]⟩
abbrev S_ : Shape := ⟨0, ![]⟩

class Facts : Prop where
  bcast_S_S1x1x1x2048 : S_.BroadcastsInDim S1x1x1x2048 (![] : Fin 0 → Fin S1x1x1x2048.rank)
  reducesTo_S1x1x1x2048_S_d0_1_2_3 : S1x1x1x2048.ReducesTo [0, 1, 2, 3] S_
  h_S_ : 0 < S_.numel
  bcast_S_S1024 : S_.BroadcastsInDim S1024 (![] : Fin 0 → Fin S1024.rank)
  reducesTo_S1024_S_d0 : S1024.ReducesTo [0] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v28 : IVec S_ 1) (main_v31 : IVec S1024x1024 1) (main_c_13 : IVec S_ 1) : IVec S_ 1 :=
  let main_v32 : IVec S_ 1 := (fun x v => Host.reduce IntOp.andi x v reducesTo_S1024x1024_S_d0_1 h_S_) main_v31 main_c_13
  let main_v33 : IVec S_ 1 := andi main_v28 main_v32
  main_v33

def fn_part1 {F : FTy → Type} [FloatOps F] (main_arg0 : FVec F S1x2048x1024 .f32) (main_arg2 : FVec F S1024x1024 .f32) (main_arg4 : FVec F S1024x1024 .f32) (main_arg9 : FVec F S1024 .f32) (main_v14 : IVec S_ 1) (main_cst_6 : FVec F S_ .f32) : IVec S_ 1 :=
  let main_v15 : FVec F S1024 .f32 := broadcastInDim S1024 ![] bcast_S_S1024 main_cst_6
  let main_v16 : IVec S1024 1 := cmpf .oeq main_arg9 main_v15
  let main_c_7 : IVec S_ 1 := constantI S_ 1 1#1
  let main_v17 : IVec S_ 1 := (fun x v => Host.reduce IntOp.andi x v reducesTo_S1024_S_d0 h_S_) main_v16 main_c_7
  let main_v18 : IVec S_ 1 := andi main_v14 main_v17
  let main_v19 : FVec F S1x2048x1024 .f32 := Host.absf main_arg0
  let main_cst_8 : FVec F S_ .f32 := constant S_ .f32 0x7F800000#32
  let main_v20 : FVec F S1x2048x1024 .f32 := broadcastInDim S1x2048x1024 ![] bcast_S_S1x2048x1024 main_cst_8
  let main_v21 : IVec S1x2048x1024 1 := cmpf .olt main_v19 main_v20
  let main_c_9 : IVec S_ 1 := constantI S_ 1 1#1
  let main_v22 : IVec S_ 1 := (fun x v => Host.reduce IntOp.andi x v reducesTo_S1x2048x1024_S_d0_1_2 h_S_) main_v21 main_c_9
  let main_v23 : IVec S_ 1 := andi main_v18 main_v22
  let main_v24 : FVec F S1024x1024 .f32 := Host.absf main_arg2
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : IVec S_ 1 := andi main_v23 main_v27
  let main_v29 : FVec F S1024x1024 .f32 := Host.absf main_arg4
  let main_cst_12 : FVec F S_ .f32 := constant S_ .f32 0x7F800000#32
  let main_v30 : FVec F S1024x1024 .f32 := broadcastInDim S1024x1024 ![] bcast_S_S1024x1024 main_cst_12
  let main_v31 : IVec S1024x1024 1 := cmpf .olt main_v29 main_v30
  let main_c_13 : IVec S_ 1 := constantI S_ 1 1#1
  fn_part2 (F := F) main_v28 main_v31 main_c_13

def fn {F : FTy → Type} [FloatOps F] (main_arg0 : FVec F S1x2048x1024 .f32) (main_arg1 : FVec F S1x1x1x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_cst : FVec F S_ .f32 := constant S_ .f32 0x00000000#32
  let main_v0 : FVec F S1x1x1x2048 .f32 := broadcastInDim S1x1x1x2048 ![] bcast_S_S1x1x1x2048 main_cst
  let main_v1 : IVec S1x1x1x2048 1 := cmpf .oeq main_arg1 main_v0
  let main_c : IVec S_ 1 := constantI S_ 1 1#1
  let main_v2 : IVec S_ 1 := (fun x v => Host.reduce IntOp.andi x v reducesTo_S1x1x1x2048_S_d0_1_2_3 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg3 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_cst_2 : FVec F S_ .f32 := constant S_ .f32 0x00000000#32
  let main_v7 : FVec F S1024 .f32 := broadcastInDim S1024 ![] bcast_S_S1024 main_cst_2
  let main_v8 : IVec S1024 1 := cmpf .oeq main_arg5 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  let main_cst_4 : FVec F S_ .f32 := constant S_ .f32 0x00000000#32
  let main_v11 : FVec F S1024 .f32 := broadcastInDim S1024 ![] bcast_S_S1024 main_cst_4
  let main_v12 : IVec S1024 1 := cmpf .oeq main_arg7 main_v11
  let main_c_5 : IVec S_ 1 := constantI S_ 1 1#1
  let main_v13 : IVec S_ 1 := (fun x v => Host.reduce IntOp.andi x v reducesTo_S1024_S_d0 h_S_) main_v12 main_c_5
  let main_v14 : IVec S_ 1 := andi main_v10 main_v13
  let main_cst_6 : FVec F S_ .f32 := constant S_ .f32 0x00000000#32
  fn_part1 (F := F) main_arg0 main_arg2 main_arg4 main_arg9 main_v14 main_cst_6
-- ==== Kernel.lean ====
abbrev S1x2048x1024 : Shape := ⟨3, ![1, 2048, 1024]⟩
abbrev S1x1x1x2048 : Shape := ⟨4, ![1, 1, 1, 2048]⟩
abbrev S1024x1024 : Shape := ⟨2, ![1024, 1024]⟩
abbrev S1024 : Shape := ⟨1, ![1024]⟩
abbrev S2048x1024 : Shape := ⟨2, ![2048, 1024]⟩
abbrev S256x1024 : Shape := ⟨2, ![256, 1024]⟩
abbrev S1024x2048 : Shape := ⟨2, ![1024, 2048]⟩
abbrev S1152x2048 : Shape := ⟨2, ![1152, 2048]⟩
abbrev S64x1024 : Shape := ⟨2, ![64, 1024]⟩
abbrev S8x1024 : Shape := ⟨2, ![8, 1024]⟩
abbrev S256x768 : Shape := ⟨2, ![256, 768]⟩
abbrev S256x64 : Shape := ⟨2, ![256, 64]⟩
abbrev S64x768 : Shape := ⟨2, ![64, 768]⟩
abbrev S72x768 : Shape := ⟨2, ![72, 768]⟩
abbrev S256 : Shape := ⟨1, ![256]⟩
abbrev S256x1 : Shape := ⟨2, ![256, 1]⟩
abbrev S256x72 : Shape := ⟨2, ![256, 72]⟩

abbrev nBuf : Space → Nat
  | .hbm => 13
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x1x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x1024, .f32⟩
  | .hbm, ⟨11, _⟩ => ⟨S2048x1024, .f32⟩
  | .hbm, ⟨12, _⟩ => ⟨S1x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .f32⟩
  | .local _ .vmem, ⟨7, _⟩ => ⟨S256x1024, .f32⟩
  | .local _ .vmem, ⟨8, _⟩ => ⟨S1024x2048, .bf16⟩
  | .local _ .vmem, ⟨9, _⟩ => ⟨S1152x2048, .bf16⟩
  | .local _ .vmem, ⟨10, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c1024_i32 : BitVec 32 := 1024#32
  let v8 : BitVec 32 := Scalar.muli arg0 c1024_i32
  v8
def k0_off1 (i : grid0.Coords) : Fin 2 → Nat :=
  let c0_5 : Index := 0#32
  let arg0 : BitVec 32 := BitVec.ofNat 32 (i 0).val
  let c1024_i32 : BitVec 32 := 1024#32
  let v8 : BitVec 32 := Scalar.muli arg0 c1024_i32
  let v9 : BitVec 32 := v8
  let v13 : Index := Scalar.indexCast v9
  ![0, v13.toNat]
def k0_off2 (i : grid0.Coords) : Fin 2 → Nat :=
  let arg0 : BitVec 32 := BitVec.ofNat 32 (i 0).val
  let c1024_i32 : BitVec 32 := 1024#32
  let v8 : BitVec 32 := Scalar.muli arg0 c1024_i32
  let v9 : BitVec 32 := v8
  let v24 : Index := Scalar.indexCast v9
  let c0_11 : Index := 0#32
  ![v24.toNat, 0]
def k0_off3 (i : grid0.Coords) : Fin 2 → Nat :=
  let c0_15 : Index := 0#32
  let arg0 : BitVec 32 := BitVec.ofNat 32 (i 0).val
  let c1024_i32 : BitVec 32 := 1024#32
  let v8 : BitVec 32 := Scalar.muli arg0 c1024_i32
  let v9 : BitVec 32 := v8
  let v32 : Index := Scalar.indexCast v9
  ![0, v32.toNat]
def k0_off4 (i : grid0.Coords) : Fin 2 → Nat :=
  let c64 : Index := 64#32
  let arg0 : BitVec 32 := BitVec.ofNat 32 (i 0).val
  let c1024_i32 : BitVec 32 := 1024#32
  let v8 : BitVec 32 := Scalar.muli arg0 c1024_i32
  let v9 : BitVec 32 := v8
  let v37 : Index := Scalar.indexCast v9
  ![64, v37.toNat]
def k0_off5 (i : grid0.Coords) : Fin 2 → Nat :=
  let c72 : Index := 72#32
  let arg0 : BitVec 32 := BitVec.ofNat 32 (i 0).val
  let c1024_i32 : BitVec 32 := 1024#32
  let v8 : BitVec 32 := Scalar.muli arg0 c1024_i32
  let v9 : BitVec 32 := v8
  let v42 : Index := Scalar.indexCast v9
  ![72, v42.toNat]
def k0_off6 (i : grid0.Coords) : Fin 2 → Nat :=
  let c136 : Index := 136#32
  let arg0 : BitVec 32 := BitVec.ofNat 32 (i 0).val
  let c1024_i32 : BitVec 32 := 1024#32
  let v8 : BitVec 32 := Scalar.muli arg0 c1024_i32
  let v9 : BitVec 32 := v8
  let v47 : Index := Scalar.indexCast v9
  ![136, v47.toNat]
def k0_off7 (i : grid0.Coords) : Fin 2 → Nat :=
  let c144 : Index := 144#32
  let arg0 : BitVec 32 := BitVec.ofNat 32 (i 0).val
  let c1024_i32 : BitVec 32 := 1024#32
  let v8 : BitVec 32 := Scalar.muli arg0 c1024_i32
  let v9 : BitVec 32 := v8
  let v52 : Index := Scalar.indexCast v9
  ![144, v52.toNat]
def k0_off8 (i : grid0.Coords) : Fin 2 → Nat :=
  let c208 : Index := 208#32
  let arg0 : BitVec 32 := BitVec.ofNat 32 (i 0).val
  let c1024_i32 : BitVec 32 := 1024#32
  let v8 : BitVec 32 := Scalar.muli arg0 c1024_i32
  let v9 : BitVec 32 := v8
  let v57 : Index := Scalar.indexCast v9
  ![208, v57.toNat]
def k0_off9 (i : grid0.Coords) : Fin 2 → Nat :=
  let c216 : Index := 216#32
  let arg0 : BitVec 32 := BitVec.ofNat 32 (i 0).val
  let c1024_i32 : BitVec 32 := 1024#32
  let v8 : BitVec 32 := Scalar.muli arg0 c1024_i32
  let v9 : BitVec 32 := v8
  let v62 : Index := Scalar.indexCast v9
  ![216, v62.toNat]
def k0_off10 (i : grid0.Coords) : Fin 2 → Nat :=
  let c280 : Index := 280#32
  let arg0 : BitVec 32 := BitVec.ofNat 32 (i 0).val
  let c1024_i32 : BitVec 32 := 1024#32
  let v8 : BitVec 32 := Scalar.muli arg0 c1024_i32
  let v9 : BitVec 32 := v8
  let v67 : Index := Scalar.indexCast v9
  ![280, v67.toNat]
def k0_off11 (i : grid0.Coords) : Fin 2 → Nat :=
  let c288 : Index := 288#32
  let arg0 : BitVec 32 := BitVec.ofNat 32 (i 0).val
  let c1024_i32 : BitVec 32 := 1024#32
  let v8 : BitVec 32 := Scalar.muli arg0 c1024_i32
  let v9 : BitVec 32 := v8
  let v72 : Index := Scalar.indexCast v9
  ![288, v72.toNat]
def k0_off12 (i : grid0.Coords) : Fin 2 → Nat :=
  let c352 : Index := 352#32
  let arg0 : BitVec 32 := BitVec.ofNat 32 (i 0).val
  let c1024_i32 : BitVec 32 := 1024#32
  let v8 : BitVec 32 := Scalar.muli arg0 c1024_i32
  let v9 : BitVec 32 := v8
  let v77 : Index := Scalar.indexCast v9
  ![352, v77.toNat]
def k0_off13 (i : grid0.Coords) : Fin 2 → Nat :=
  let c360 : Index := 360#32
  let arg0 : BitVec 32 := BitVec.ofNat 32 (i 0).val
  let c1024_i32 : BitVec 32 := 1024#32
  let v8 : BitVec 32 := Scalar.muli arg0 c1024_i32
  let v9 : BitVec 32 := v8
  let v82 : Index := Scalar.indexCast v9
  ![360, v82.toNat]
def k0_off14 (i : grid0.Coords) : Fin 2 → Nat :=
  let c424 : Index := 424#32
  let arg0 : BitVec 32 := BitVec.ofNat 32 (i 0).val
  let c1024_i32 : BitVec 32 := 1024#32
  let v8 : BitVec 32 := Scalar.muli arg0 c1024_i32
  let v9 : BitVec 32 := v8
  let v87 : Index := Scalar.indexCast v9
  ![424, v87.toNat]
def k0_off15 (i : grid0.Coords) : Fin 2 → Nat :=
  let c432 : Index := 432#32
  let arg0 : BitVec 32 := BitVec.ofNat 32 (i 0).val
  let c1024_i32 : BitVec 32 := 1024#32
  let v8 : BitVec 32 := Scalar.muli arg0 c1024_i32
  let v9 : BitVec 32 := v8
  let v92 : Index := Scalar.indexCast v9
  ![432, v92.toNat]
def k0_off16 (i : grid0.Coords) : Fin 2 → Nat :=
  let c496 : Index := 496#32
  let arg0 : BitVec 32 := BitVec.ofNat 32 (i 0).val
  let c1024_i32 : BitVec 32 := 1024#32
  let v8 : BitVec 32 := Scalar.muli arg0 c1024_i32
  let v9 : BitVec 32 := v8
  let v97 : Index := Scalar.indexCast v9
  ![496, v97.toNat]
def k0_off17 (i : grid0.Coords) : Fin 2 → Nat :=
  let c504 : Index := 504#32
  let arg0 : BitVec 32 := BitVec.ofNat 32 (i 0).val
  let c1024_i32 : BitVec 32 := 1024#32
  let v8 : BitVec 32 := Scalar.muli arg0 c1024_i32
  let v9 : BitVec 32 := v8
  let v102 : Index := Scalar.indexCast v9
  ![504, v102.toNat]
def k0_off18 (i : grid0.Coords) : Fin 2 → Nat :=
  let c568 : Index := 568#32
  let arg0 : BitVec 32 := BitVec.ofNat 32 (i 0).val
  let c1024_i32 : BitVec 32 := 1024#32
  let v8 : BitVec 32 := Scalar.muli arg0 c1024_i32
  let v9 : BitVec 32 := v8
  let v107 : Index := Scalar.indexCast v9
  ![568, v107.toNat]
def k0_off19 (i : grid0.Coords) : Fin 2 → Nat :=
  let c576 : Index := 576#32
  let arg0 : BitVec 32 := BitVec.ofNat 32 (i 0).val
  let c1024_i32 : BitVec 32 := 1024#32
  let v8 : BitVec 32 := Scalar.muli arg0 c1024_i32
  let v9 : BitVec 32 := v8
  let v112 : Index := Scalar.indexCast v9
  ![576, v112.toNat]
def k0_off20 (i : grid0.Coords) : Fin 2 → Nat :=
  let c640 : Index := 640#32
  let arg0 : BitVec 32 := BitVec.ofNat 32 (i 0).val
  let c1024_i32 : BitVec 32 := 1024#32
  let v8 : BitVec 32 := Scalar.muli arg0 c1024_i32
  let v9 : BitVec 32 := v8
  let v117 : Index := Scalar.indexCast v9
  ![640, v117.toNat]
def k0_off21 (i : grid0.Coords) : Fin 2 → Nat :=
  let c648 : Index := 648#32
  let arg0 : BitVec 32 := BitVec.ofNat 32 (i 0).val
  let c1024_i32 : BitVec 32 := 1024#32
  let v8 : BitVec 32 := Scalar.muli arg0 c1024_i32
  let v9 : BitVec 32 := v8
  let v122 : Index := Scalar.indexCast v9
  ![648, v122.toNat]
def k0_off22 (i : grid0.Coords) : Fin 2 → Nat :=
  let c712 : Index := 712#32
  let arg0 : BitVec 32 := BitVec.ofNat 32 (i 0).val
  let c1024_i32 : BitVec 32 := 1024#32
  let v8 : BitVec 32 := Scalar.muli arg0 c1024_i32
  let v9 : BitVec 32 := v8
  let v127 : Index := Scalar.indexCast v9
  ![712, v127.toNat]
def k0_off23 (i : grid0.Coords) : Fin 2 → Nat :=
  let c720 : Index := 720#32
  let arg0 : BitVec 32 := BitVec.ofNat 32 (i 0).val
  let c1024_i32 : BitVec 32 := 1024#32
  let v8 : BitVec 32 := Scalar.muli arg0 c1024_i32
  let v9 : BitVec 32 := v8
  let v132 : Index := Scalar.indexCast v9
  ![720, v132.toNat]
def k0_off24 (i : grid0.Coords) : Fin 2 → Nat :=
  let c784 : Index := 784#32
  let arg0 : BitVec 32 := BitVec.ofNat 32 (i 0).val
  let c1024_i32 : BitVec 32 := 1024#32
  let v8 : BitVec 32 := Scalar.muli arg0 c1024_i32
  let v9 : BitVec 32 := v8
  let v137 : Index := Scalar.indexCast v9
  ![784, v137.toNat]
def k0_off25 (i : grid0.Coords) : Fin 2 → Nat :=
  let c792 : Index := 792#32
  let arg0 : BitVec 32 := BitVec.ofNat 32 (i 0).val
  let c1024_i32 : BitVec 32 := 1024#32
  let v8 : BitVec 32 := Scalar.muli arg0 c1024_i32
  let v9 : BitVec 32 := v8
  let v142 : Index := Scalar.indexCast v9
  ![792, v142.toNat]
def k0_off26 (i : grid0.Coords) : Fin 2 → Nat :=
  let c856 : Index := 856#32
  let arg0 : BitVec 32 := BitVec.ofNat 32 (i 0).val
  let c1024_i32 : BitVec 32 := 1024#32
  let v8 : BitVec 32 := Scalar.muli arg0 c1024_i32
  let v9 : BitVec 32 := v8
  let v147 : Index := Scalar.indexCast v9
  ![856, v147.toNat]
def k0_off27 (i : grid0.Coords) : Fin 2 → Nat :=
  let c864 : Index := 864#32
  let arg0 : BitVec 32 := BitVec.ofNat 32 (i 0).val
  let c1024_i32 : BitVec 32 := 1024#32
  let v8 : BitVec 32 := Scalar.muli arg0 c1024_i32
  let v9 : BitVec 32 := v8
  let v152 : Index := Scalar.indexCast v9
  ![864, v152.toNat]
def k0_off28 (i : grid0.Coords) : Fin 2 → Nat :=
  let c928 : Index := 928#32
  let arg0 : BitVec 32 := BitVec.ofNat 32 (i 0).val
  let c1024_i32 : BitVec 32 := 1024#32
  let v8 : BitVec 32 := Scalar.muli arg0 c1024_i32
  let v9 : BitVec 32 := v8
  let v157 : Index := Scalar.indexCast v9
  ![928, v157.toNat]
def k0_off29 (i : grid0.Coords) : Fin 2 → Nat :=
  let c936 : Index := 936#32
  let arg0 : BitVec 32 := BitVec.ofNat 32 (i 0).val
  let c1024_i32 : BitVec 32 := 1024#32
  let v8 : BitVec 32 := Scalar.muli arg0 c1024_i32
  let v9 : BitVec 32 := v8
  let v162 : Index := Scalar.indexCast v9
  ![936, v162.toNat]
def k0_off30 (i : grid0.Coords) : Fin 2 → Nat :=
  let c1000 : Index := 1000#32
  let arg0 : BitVec 32 := BitVec.ofNat 32 (i 0).val
  let c1024_i32 : BitVec 32 := 1024#32
  let v8 : BitVec 32 := Scalar.muli arg0 c1024_i32
  let v9 : BitVec 32 := v8
  let v167 : Index := Scalar.indexCast v9
  ![1000, v167.toNat]
def k0_off31 (i : grid0.Coords) : Fin 2 → Nat :=
  let c1008 : Index := 1008#32
  let arg0 : BitVec 32 := BitVec.ofNat 32 (i 0).val
  let c1024_i32 : BitVec 32 := 1024#32
  let v8 : BitVec 32 := Scalar.muli arg0 c1024_i32
  let v9 : BitVec 32 := v8
  let v172 : Index := Scalar.indexCast v9
  ![1008, v172.toNat]
def k0_off32 (i : grid0.Coords) : Fin 2 → Nat :=
  let c1072 : Index := 1072#32
  let arg0 : BitVec 32 := BitVec.ofNat 32 (i 0).val
  let c1024_i32 : BitVec 32 := 1024#32
  let v8 : BitVec 32 := Scalar.muli arg0 c1024_i32
  let v9 : BitVec 32 := v8
  let v177 : Index := Scalar.indexCast v9
  ![1072, v177.toNat]
def k0_off33 (i : grid0.Coords) : Fin 2 → Nat :=
  let c1080 : Index := 1080#32
  let arg0 : BitVec 32 := BitVec.ofNat 32 (i 0).val
  let c1024_i32 : BitVec 32 := 1024#32
  let v8 : BitVec 32 := Scalar.muli arg0 c1024_i32
  let v9 : BitVec 32 := v8
  let v182 : Index := Scalar.indexCast v9
  ![1080, v182.toNat]
def k0_off34 (i : grid0.Coords) : Fin 2 → Nat :=
  let c1144 : Index := 1144#32
  let arg0 : BitVec 32 := BitVec.ofNat 32 (i 0).val
  let c1024_i32 : BitVec 32 := 1024#32
  let v8 : BitVec 32 := Scalar.muli arg0 c1024_i32
  let v9 : BitVec 32 := v8
  let v187 : Index := Scalar.indexCast v9
  ![1144, v187.toNat]
def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  v7
def k0_mult3 (i : grid0.Coords) : BitVec 32 :=
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  v11
def k0_off35 (i : grid0.Coords) : Fin 2 → Nat :=
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let v13 : Index := Scalar.indexCast v8
  let c0 : Index := 0#32
  ![v13.toNat, 0]
def k0_off36 (i : grid0.Coords) : Fin 2 → Nat :=
  let c0_6 : Index := 0#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v27 : Index := Scalar.indexCast v12
  ![0, v27.toNat]
def k0_off37 (i : grid0.Coords) : Fin 2 → Nat :=
  let c0_7 : Index := 0#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v29 : Index := Scalar.indexCast v12
  ![0, v29.toNat]
def k0_off38 (i : grid0.Coords) : Fin 2 → Nat :=
  let c64 : Index := 64#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v46 : Index := Scalar.indexCast v12
  ![64, v46.toNat]
def k0_off39 (i : grid0.Coords) : Fin 2 → Nat :=
  let c72 : Index := 72#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v48 : Index := Scalar.indexCast v12
  ![72, v48.toNat]
def k0_off40 (i : grid0.Coords) : Fin 2 → Nat :=
  let c128 : Index := 128#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v65 : Index := Scalar.indexCast v12
  ![128, v65.toNat]
def k0_off41 (i : grid0.Coords) : Fin 2 → Nat :=
  let c144 : Index := 144#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v67 : Index := Scalar.indexCast v12
  ![144, v67.toNat]
def k0_off42 (i : grid0.Coords) : Fin 2 → Nat :=
  let c192 : Index := 192#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v84 : Index := Scalar.indexCast v12
  ![192, v84.toNat]
def k0_off43 (i : grid0.Coords) : Fin 2 → Nat :=
  let c216 : Index := 216#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v86 : Index := Scalar.indexCast v12
  ![216, v86.toNat]
def k0_off44 (i : grid0.Coords) : Fin 2 → Nat :=
  let c256 : Index := 256#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v103 : Index := Scalar.indexCast v12
  ![256, v103.toNat]
def k0_off45 (i : grid0.Coords) : Fin 2 → Nat :=
  let c288 : Index := 288#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v105 : Index := Scalar.indexCast v12
  ![288, v105.toNat]
def k0_off46 (i : grid0.Coords) : Fin 2 → Nat :=
  let c320 : Index := 320#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v122 : Index := Scalar.indexCast v12
  ![320, v122.toNat]
def k0_off47 (i : grid0.Coords) : Fin 2 → Nat :=
  let c360 : Index := 360#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v124 : Index := Scalar.indexCast v12
  ![360, v124.toNat]
def k0_off48 (i : grid0.Coords) : Fin 2 → Nat :=
  let c384 : Index := 384#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v141 : Index := Scalar.indexCast v12
  ![384, v141.toNat]
def k0_off49 (i : grid0.Coords) : Fin 2 → Nat :=
  let c432 : Index := 432#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v143 : Index := Scalar.indexCast v12
  ![432, v143.toNat]
def k0_off50 (i : grid0.Coords) : Fin 2 → Nat :=
  let c448 : Index := 448#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v160 : Index := Scalar.indexCast v12
  ![448, v160.toNat]
def k0_off51 (i : grid0.Coords) : Fin 2 → Nat :=
  let c504 : Index := 504#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v162 : Index := Scalar.indexCast v12
  ![504, v162.toNat]
def k0_off52 (i : grid0.Coords) : Fin 2 → Nat :=
  let c512 : Index := 512#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v179 : Index := Scalar.indexCast v12
  ![512, v179.toNat]
def k0_off53 (i : grid0.Coords) : Fin 2 → Nat :=
  let c576 : Index := 576#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v181 : Index := Scalar.indexCast v12
  ![576, v181.toNat]
def k0_off54 (i : grid0.Coords) : Fin 2 → Nat :=
  let c576_43 : Index := 576#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v198 : Index := Scalar.indexCast v12
  ![576, v198.toNat]
def k0_off55 (i : grid0.Coords) : Fin 2 → Nat :=
  let c648 : Index := 648#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v200 : Index := Scalar.indexCast v12
  ![648, v200.toNat]
def k0_off56 (i : grid0.Coords) : Fin 2 → Nat :=
  let c640 : Index := 640#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v217 : Index := Scalar.indexCast v12
  ![640, v217.toNat]
def k0_off57 (i : grid0.Coords) : Fin 2 → Nat :=
  let c720 : Index := 720#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v219 : Index := Scalar.indexCast v12
  ![720, v219.toNat]
def k0_off58 (i : grid0.Coords) : Fin 2 → Nat :=
  let c704 : Index := 704#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v236 : Index := Scalar.indexCast v12
  ![704, v236.toNat]
def k0_off59 (i : grid0.Coords) : Fin 2 → Nat :=
  let c792 : Index := 792#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v238 : Index := Scalar.indexCast v12
  ![792, v238.toNat]
def k0_off60 (i : grid0.Coords) : Fin 2 → Nat :=
  let c768 : Index := 768#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v255 : Index := Scalar.indexCast v12
  ![768, v255.toNat]
def k0_off61 (i : grid0.Coords) : Fin 2 → Nat :=
  let c864 : Index := 864#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v257 : Index := Scalar.indexCast v12
  ![864, v257.toNat]
def k0_off62 (i : grid0.Coords) : Fin 2 → Nat :=
  let c832 : Index := 832#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v274 : Index := Scalar.indexCast v12
  ![832, v274.toNat]
def k0_off63 (i : grid0.Coords) : Fin 2 → Nat :=
  let c936 : Index := 936#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v276 : Index := Scalar.indexCast v12
  ![936, v276.toNat]
def k0_off64 (i : grid0.Coords) : Fin 2 → Nat :=
  let c896 : Index := 896#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v293 : Index := Scalar.indexCast v12
  ![896, v293.toNat]
def k0_off65 (i : grid0.Coords) : Fin 2 → Nat :=
  let c1008 : Index := 1008#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v295 : Index := Scalar.indexCast v12
  ![1008, v295.toNat]
def k0_off66 (i : grid0.Coords) : Fin 2 → Nat :=
  let c960 : Index := 960#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v312 : Index := Scalar.indexCast v12
  ![960, v312.toNat]
def k0_off67 (i : grid0.Coords) : Fin 2 → Nat :=
  let c1080 : Index := 1080#32
  let c1280_i32 : BitVec 32 := 1280#32
  let c0_i32_4 : BitVec 32 := 0#32
  let arg0 : BitVec 32 := BitVec.ofNat 32 (i 0).val
  let c2_i32_2 : BitVec 32 := 2#32
  let v6 : BitVec 32 := Scalar.subi arg0 c2_i32_2
  let c256_i32 : BitVec 32 := 256#32
  let v7 : BitVec 32 := Scalar.muli v6 c256_i32
  let v8 : BitVec 32 := v7
  let c256_i32_3 : BitVec 32 := 256#32
  let v9 : BitVec 32 := Scalar.subi v8 c256_i32_3
  let v10 : BitVec 32 := Scalar.maxsi c0_i32_4 v9
  let v11 : BitVec 32 := Scalar.minsi c1280_i32 v10
  let v12 : BitVec 32 := v11
  let v314 : Index := Scalar.indexCast v12
  ![1080, v314.toNat]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1x1x1x2048 : Shape := ⟨4, ![1, 1, 1, 2048]⟩
abbrev S1024x1024 : Shape := ⟨2, ![1024, 1024]⟩
abbrev S1024 : Shape := ⟨1, ![1024]⟩
abbrev S1x1x2048 : Shape := ⟨3, ![1, 1, 2048]⟩
abbrev S1x2048 : Shape := ⟨2, ![1, 2048]⟩
abbrev S_ : Shape := ⟨0, ![]⟩
abbrev S1x1x1024 : Shape := ⟨3, ![1, 1, 1024]⟩
abbrev S1x2048x16x64 : Shape := ⟨4, ![1, 2048, 16, 64]⟩
abbrev S1x16x2048x2048 : Shape := ⟨4, ![1, 16, 2048, 2048]⟩
abbrev S2048 : Shape := ⟨1, ![2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x1x2048x1 : Shape := ⟨4, ![1, 1, 2048, 1]⟩
abbrev S1x16x64x2048 : Shape := ⟨4, ![1, 16, 64, 2048]⟩

abbrev nBuf : Space → Nat
  | .hbm => 92
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .i1⟩
  | .hbm, ⟨15, _⟩ => ⟨S1024x1024, .f32⟩
  | .hbm, ⟨16, _⟩ => ⟨S1x2048x1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S1x2048x16x64, .f32⟩
  | .hbm, ⟨21, _⟩ => ⟨S_, .f32⟩
  | .hbm, ⟨22, _⟩ => ⟨S_, .f32⟩
  | .hbm, ⟨23, _⟩ => ⟨S1x2048x16x64, .f32⟩
  | .hbm, ⟨24, _⟩ => ⟨S1x2048x16x64, .f32⟩
  | .hbm, ⟨25, _⟩ => ⟨S1024x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x16x64, .f32⟩
  | .hbm, ⟨31, _⟩ => ⟨S1024x1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x2048x16x64, .f32⟩
  | .hbm, ⟨37, _⟩ => ⟨S1x16x2048x2048, .f32⟩
  | .hbm, ⟨38, _⟩ => ⟨S2048, .i32⟩
  | .hbm, ⟨39, _⟩ => ⟨S2048x1, .i32⟩
  | .hbm, ⟨40, _⟩ => ⟨S1x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i1⟩
  | .hbm, ⟨48, _⟩ => ⟨S_, .f32⟩
  | .hbm, ⟨49, _⟩ => ⟨S1x2048, .f32⟩
  | .hbm, ⟨50, _⟩ => ⟨S1x2048, .i1⟩
  | .hbm, ⟨51, _⟩ => ⟨S_, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x1x1x2048, .f32⟩
  | .hbm, ⟨57, _⟩ => ⟨S1x16x2048x2048, .f32⟩
  | .hbm, ⟨58, _⟩ => ⟨S1x16x2048x2048, .f32⟩
  | .hbm, ⟨59, _⟩ => ⟨S1x1x2048x2048, .i1⟩
  | .hbm, ⟨60, _⟩ => ⟨S_, .f32⟩
  | .hbm, ⟨61, _⟩ => ⟨S_, .f32⟩
  | .hbm, ⟨62, _⟩ => ⟨S1x16x2048x2048, .i1⟩
  | .hbm, ⟨63, _⟩ => ⟨S1x16x2048x2048, .f32⟩
  | .hbm, ⟨64, _⟩ => ⟨S1x16x2048x2048, .f32⟩
  | .hbm, ⟨65, _⟩ => ⟨S_, .f32⟩
  | .hbm, ⟨66, _⟩ => ⟨S1x16x2048, .f32⟩
  | .hbm, ⟨67, _⟩ => ⟨S_, .f32⟩
  | .hbm, ⟨68, _⟩ => ⟨S1x16x2048, .f32⟩
  | .hbm, ⟨69, _⟩ => ⟨S1x16x2048, .f32⟩
  | .hbm, ⟨70, _⟩ => ⟨S1x16x2048x1, .f32⟩
  | .hbm, ⟨71, _⟩ => ⟨S1x16x2048x2048, .f32⟩
  | .hbm, ⟨72, _⟩ => ⟨S1x16x2048x2048, .f32⟩
  | .hbm, ⟨73, _⟩ => ⟨S1x16x2048x2048, .f32⟩
  | .hbm, ⟨74, _⟩ => ⟨S_, .f32⟩
  | .hbm, ⟨75, _⟩ => ⟨S1x16x2048, .f32⟩
  | .hbm, ⟨76, _⟩ => ⟨S1x16x2048x1, .f32⟩
  | .hbm, ⟨77, _⟩ => ⟨S1x16x2048x2048, .f32⟩
  | .hbm, ⟨78, _⟩ => ⟨S1x16x2048x2048, .f32⟩
  | .hbm, ⟨79, _⟩ => ⟨S1x1x2048x1, .i1⟩
  | .hbm, ⟨80, _⟩ => ⟨S_, .f32⟩
  | .hbm, ⟨81, _⟩ => ⟨S1x16x2048x2048, .i1⟩
  | .hbm, ⟨82, _⟩ => ⟨S1x16x2048x2048, .f32⟩
  | .hbm, ⟨83, _⟩ => ⟨S1x16x2048x2048, .f32⟩
  | .hbm, ⟨84, _⟩ => ⟨S1x16x64x2048, .f32⟩
  | .hbm, ⟨85, _⟩ => ⟨S1x2048x16x64, .f32⟩
  | .hbm, ⟨86, _⟩ => ⟨S1x2048x1024, .f32⟩
  | .hbm, ⟨87, _⟩ => ⟨S1024x1024, .f32⟩
  | .hbm, ⟨88, _⟩ => ⟨S1x2048x1024, .f32⟩
  | .hbm, ⟨89, _⟩ => ⟨S1x1x1024, .f32⟩
  | .hbm, ⟨90, _⟩ => ⟨S1x2048x1024, .f32⟩
  | .hbm, ⟨91, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_cst_3 : Ref sig .tc := ⟨.hbm, 52, rfl⟩
abbrev main_call0_v0 : Ref sig .tc := ⟨.hbm, 53, rfl⟩
abbrev main_call0_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Proof.Kit.lean ====
/- What the runs of the idealized kernel share: which grid points project and which attend, the memrefs the body is called
   on, and the three scratch arrays that the pipeline hands from point to point. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The projecting branch is taken exactly at points 0 and 1. -/
theorem projects_iff : ∀ t : Fin cfg0.N, k0_cond1 (grid0.coords t) = 1#1 ↔ t.val < 2 :=
  (by decide +kernel : ∀ t : Fin grid0.N, k0_cond1 (grid0.coords t) = 1#1 ↔ t.val < 2)

/-- The attending branch is taken exactly from point 2 on. -/
theorem attends_iff : ∀ t : Fin cfg0.N, k0_cond2 (grid0.coords t) = 1#1 ↔ 2 ≤ t.val :=
  (by decide +kernel : ∀ t : Fin grid0.N, k0_cond2 (grid0.coords t) = 1#1 ↔ 2 ≤ t.val)

/-- Each window's staging memref at point `t`, and that it is a whole buffer. -/
abbrev stg0 (t : Fin cfg0.N) : Memref sig .tc .vmem S1024x1024 .f32 := win0_0.stage (cfg0.slots t 0)
abbrev stg1 (t : Fin cfg0.N) : Memref sig .tc .vmem S1024x1024 .f32 := win0_1.stage (cfg0.slots t 1)
abbrev stg2 (t : Fin cfg0.N) : Memref sig .tc .vmem S1024x1024 .f32 := win0_2.stage (cfg0.slots t 2)
abbrev stg3 (t : Fin cfg0.N) : Memref sig .tc .vmem S1024x1024 .f32 := win0_3.stage (cfg0.slots t 3)
abbrev stg4 (t : Fin cfg0.N) : Memref sig .tc .vmem S1024x1024 .f32 := win0_4.stage (cfg0.slots t 4)
abbrev stg5 (t : Fin cfg0.N) : Memref sig .tc .vmem S256x1024 .f32 := win0_5.stage (cfg0.slots t 5)

/-- The scratch arrays: projected keys (one column per position), projected values with rows of ones between the heads,
    and scaled queries (one row per position). -/
abbrev scrK : Memref sig .tc .vmem S1024x2048 .bf16 := Memref.whole cc0_scratch0
abbrev scrV : Memref sig .tc .vmem S1152x2048 .bf16 := Memref.whole cc0_scratch1
abbrev scrQ : Memref sig .tc .vmem S2048x1024 .bf16 := Memref.whole cc0_scratch2

/-- What the launch hands the body beside the windows: the three scratch arrays at some contents, and the generator
    register. -/
theorem rest_eq (c : Dev nD) :
    (Pipeline.ΦA spec0 c : sProp 𝕄)
      = iprop(iprop((∃ d, owns (c : Thread nD τ) scrK fullShare d) ∗ (∃ d, owns (c : Thread nD τ) scrV fullShare d)
          ∗ (∃ d, owns (c : Thread nD τ) scrQ fullShare d)) ∗ (∃ r, prngReg c r)) := by
  unfold Pipeline.ΦA; rw [scopedRest0_eq]; simp only [scrK, scrV, scrQ, owns_whole]; try rfl

end Cert.KernelIdeal.Hand

end
-- ==== Proof.Slabs.lean ====
/- The projected values as the scratch array holds them: per head 64 rows of values and then 8 rows of ones, written one
   slab at a time over a block of 1024 columns. -/
module

public import proofs.«01_k».proof.Proof.Kit
public import Idealize.ShloMosaic.Lib.Pointwise

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-- The entry of the value array at row `r`, column `c` of a block of projected values: row `64 * h + a` of the projection
    for `r = 72 * h + a` with `a < 64`, and one on the other rows. -/
def valueEntry (w : Vec F S1024x1024 .bf16) (r c : ℕ) : F .bf16 :=
  if r % 72 < 64 then w (ix2 ⟨(64 * (r / 72) + r % 72) % 1024, Nat.mod_lt _ (by decide)⟩ ⟨c % 1024, Nat.mod_lt _ (by decide)⟩)
  else Scalar.ofBits .bf16 0x3F80#16

/-- The value array after the first `n` rows of the block of columns from `c0` on have been written. -/
def fillV (c0 n : ℕ) (w : Vec F S1024x1024 .bf16) (d : Vec F S1152x2048 .bf16) : Vec F S1152x2048 .bf16 := fun y =>
  if c0 ≤ (y 1).val ∧ (y 1).val < c0 + 1024 ∧ (y 0).val < n then valueEntry w (y 0).val ((y 1).val - c0) else d y

/-- With no row written the array is as it was. -/
theorem fillV_zero (c0 : ℕ) (w : Vec F S1024x1024 .bf16) (d : Vec F S1152x2048 .bf16) : fillV c0 0 w d = d :=
  funext fun y => if_neg fun h => Nat.not_lt_zero _ h.2.2

/-- Writing `k` more rows, each entry the one the array is to hold, extends the rows written by `k`. -/
theorem put_rows (c0 n k : ℕ) (w : Vec F S1024x1024 .bf16) (d : Vec F S1152x2048 .bf16) (off : Fin 2 → ℕ) (hoff : off = ![n, c0])
    (v : ((a : Fin 2) → Fin ((![k, 1024] : Fin 2 → ℕ) a)) → F .bf16) (hv : ∀ (a : Fin k) (b : Fin 1024), v (ix2 a b) = valueEntry w (n + a.val) b.val) :
    VecWindow.put (s := S1152x2048) (fillV c0 n w d) off ![k, 1024] v = fillV c0 (n + k) w d := by
  subst hoff
  funext y
  unfold VecWindow.put
  by_cases h : ∀ a, (![n, c0] : Fin 2 → ℕ) a ≤ (y a).val ∧ (y a).val < (![n, c0] : Fin 2 → ℕ) a + (![k, 1024] : Fin 2 → ℕ) a
  · rw [dif_pos h]
    have h0 : n ≤ (y 0).val ∧ (y 0).val < n + k := h 0
    have h1 : c0 ≤ (y 1).val ∧ (y 1).val < c0 + 1024 := h 1
    have e : Rect.unitLocal (s := S1152x2048) (off := ![n, c0]) (size := ![k, 1024]) y h = ix2 (n0 := k) (n1 := 1024) ⟨(y 0).val - n, by omega⟩ ⟨(y 1).val - c0, by omega⟩ :=
      funext fun a => match a with | ⟨0, _⟩ => rfl | ⟨1, _⟩ => rfl
    rw [e, hv]
    unfold fillV
    rw [if_pos ⟨h1.1, h1.2, h0.2⟩]
    exact congrArg (fun r => valueEntry w r _) (by show n + ((y 0).val - n) = (y 0).val; omega)
  · rw [dif_neg h]
    unfold fillV
    by_cases hc : c0 ≤ (y 1).val ∧ (y 1).val < c0 + 1024
    · have h0 : ¬ (n ≤ (y 0).val ∧ (y 0).val < n + k) := fun hh => h fun a => match a with | ⟨0, _⟩ => hh | ⟨1, _⟩ => hc
      have hiff : (c0 ≤ (y 1).val ∧ (y 1).val < c0 + 1024 ∧ (y 0).val < n) ↔ (c0 ≤ (y 1).val ∧ (y 1).val < c0 + 1024 ∧ (y 0).val < n + k) := by
        constructor <;> rintro ⟨a, b, e⟩ <;> exact ⟨a, b, by omega⟩
      rw [if_congr hiff rfl rfl]
    · rw [if_neg fun hh => hc ⟨hh.1, hh.2.1⟩, if_neg fun hh => hc ⟨hh.1, hh.2.1⟩]

/-- A slab of 64 rows of the projection is what the array is to hold on the value rows of head `h`. -/
theorem slab_entry (w : Vec F S1024x1024 .bf16) (h : ℕ) (hh : h < 16) (a : Fin 64) (b : Fin 1024) :
    w (ix2 ⟨64 * h + a.val, by omega⟩ b) = valueEntry w (72 * h + a.val) b.val := by
  unfold valueEntry
  rw [if_pos (by omega)]
  exact congrArg w (congrArg₂ ix2 (Fin.ext (by show 64 * h + a.val = _; have := a.isLt; simp only; omega)) (Fin.ext (by have := b.isLt; simp only; omega)))

/-- One is what the array is to hold on the 8 rows after the value rows of head `h`. -/
theorem ones_entry (w : Vec F S1024x1024 .bf16) (h : ℕ) (a : Fin 8) (b : ℕ) :
    (Scalar.ofBits .bf16 0x3F80#16 : F .bf16) = valueEntry w (72 * h + 64 + a.val) b := by
  unfold valueEntry
  rw [if_neg (by omega)]

/-- Storing head `h`'s value rows. -/
theorem store_slab {v : View sig .tc .vmem S1152x2048 .bf16} (f : v.ty.Contents (Elt F)) (L : List (View.Piece (Elt F) S1152x2048 .bf16)) (c0 h : ℕ) (hh : h < 16)
    (w : Vec F S1024x1024 .bf16) (d : Vec F S1152x2048 .bf16) (off : Fin 2 → ℕ) (inb) (hoff : off = ![72 * h, c0])
    (s : FVec F S64x1024 .bf16) (hs : ∀ (a : Fin 64) (b : Fin 1024), s (ix2 a b) = w (ix2 ⟨64 * h + a.val, by omega⟩ b))
    (hL : v.read (Elt F) (v.writes (Elt F) f L) = fillV c0 (72 * h) w d) :
    v.read (Elt F) (v.writes (Elt F) f (⟨Rect.unit (s := S1152x2048) off S64x1024.size inb, s⟩ :: L)) = fillV c0 (72 * h + 64) w d := by
  rw [View.read_writes_cons_put v f inb s L rfl, hL]
  exact put_rows c0 (72 * h) 64 w d off hoff s fun a b => (hs a b).trans (slab_entry w h hh a b)

/-- Storing the ones after head `h`'s value rows. -/
theorem store_ones {v : View sig .tc .vmem S1152x2048 .bf16} (f : v.ty.Contents (Elt F)) (L : List (View.Piece (Elt F) S1152x2048 .bf16)) (c0 h : ℕ)
    (w : Vec F S1024x1024 .bf16) (d : Vec F S1152x2048 .bf16) (off : Fin 2 → ℕ) (inb) (hoff : off = ![72 * h + 64, c0])
    (s : FVec F S8x1024 .bf16) (hs : ∀ (a : Fin 8) (b : Fin 1024), s (ix2 a b) = Scalar.ofBits .bf16 0x3F80#16)
    (hL : v.read (Elt F) (v.writes (Elt F) f L) = fillV c0 (72 * h + 64) w d) :
    v.read (Elt F) (v.writes (Elt F) f (⟨Rect.unit (s := S1152x2048) off S8x1024.size inb, s⟩ :: L)) = fillV c0 (72 * h + 72) w d := by
  rw [View.read_writes_cons_put v f inb s L rfl, hL]
  exact put_rows c0 (72 * h + 64) 8 w d off hoff s fun a b => (hs a b).trans (ones_entry w h a b.val)

end Cert.KernelIdeal.Hand

end
-- ==== Proof.Project.lean ====
/- The projecting points' body: what it leaves in the three scratch arrays. -/
module

public import proofs.«01_k».proof.Proof.Slabs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S256x1024 .f32) (harg6 : arg6.IsWhole)
    (arg7 : Memref sig .tc .vmem S1024x2048 .bf16) (harg7 : arg7.IsWhole) (arg8 : Memref sig .tc .vmem S1152x2048 .bf16) (harg8 : arg8.IsWhole)
    (arg9 : Memref sig .tc .vmem S2048x1024 .bf16) (harg9 : arg9.IsWhole)

/-- A slab cut out of the projection from row `64 * h` on, read at an index. -/
theorem slab_of (w : FVec F S1024x1024 .bf16) (h : ℕ) (off : Fin 2 → ℕ) (hh : h < 16) (hs : S1024x1024.Slices off S64x1024) (ho : off = ![64 * h, 0])
    (a : Fin 64) (b : Fin 1024) :
    shapeCast S64x1024 (extractStridedSlice S64x1024 off w hs) shapeCasts_S64x1024_S64x1024 (ix2 a b) = w (ix2 ⟨64 * h + a.val, by omega⟩ b) := by
  subst ho
  pointwise

/-- A projecting point leaves its block of keys, queries and values in the scratch arrays, and everything else as it was. -/
theorem project_run (hc0 : k0_cond1 i = 1#1) (hc1 : ¬ k0_cond2 i = 1#1)
    (x0 x1 x2 x3 x4 : Vec F S1024x1024 .f32) (x5 : Vec F S256x1024 .f32) (d7 : Vec F S1024x2048 .bf16) (d8 : Vec F S1152x2048 .bf16) (d9 : Vec F S2048x1024 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d7 ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (VecWindow.put d7 (k0_off1 i) S1024x1024.size (k0_pay11 x0 x2))
            ∗ owns (c : Thread nD τ) arg8 fullShare (fillV (k0_off1 i 1) (72 * 15 + 72) (k0_pay13 x0 x3) d8)
            ∗ owns (c : Thread nD τ) arg9 fullShare (VecWindow.put d9 (k0_off2 i) S1024x1024.size (k0_pay12 x0 x1))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, Hk⟩
  sl_exec (disch := first | sl_exact hc0 | sl_exact hc1)
  sl_step
  iapply Hk
  have l0 : View.readAt (Elt F) arg1.view (Rect.unit ![0, 0] S1024x1024.size inb_S1024x1024_S1024x1024_0_0).toLoadRect f0 = x0 := (View.readAt_full _ _ _).trans hf0
  have l1 : View.readAt (Elt F) arg2.view (Rect.unit ![0, 0] S1024x1024.size inb_S1024x1024_S1024x1024_0_0).toLoadRect f1 = x1 := (View.readAt_full _ _ _).trans hf1
  have l2 : View.readAt (Elt F) arg3.view (Rect.unit ![0, 0] S1024x1024.size inb_S1024x1024_S1024x1024_0_0).toLoadRect f2 = x2 := (View.readAt_full _ _ _).trans hf2
  have l3 : View.readAt (Elt F) arg4.view (Rect.unit ![0, 0] S1024x1024.size inb_S1024x1024_S1024x1024_0_0).toLoadRect f3 = x3 := (View.readAt_full _ _ _).trans hf3
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H7]
  · iexists _; isplitr; swap
    · iexact H7
    ipureintro
    rw [l0, l2, View.read_writes_cons_put _ _ _ _ _ rfl, View.writes_nil, hf7]
  isplitl [H8]
  · iexists _; isplitr; swap
    · iexact H8
    ipureintro
    rw [← l0, ← l3]
    have key := slab_of (k0_pay13 (View.readAt (Elt F) arg1.view (Rect.unit ![0, 0] S1024x1024.size inb_S1024x1024_S1024x1024_0_0).toLoadRect f0)
      (View.readAt (Elt F) arg4.view (Rect.unit ![0, 0] S1024x1024.size inb_S1024x1024_S1024x1024_0_0).toLoadRect f3))
    refine store_ones _ _ _ 15 _ _ _ _ rfl _ (fun _ _ => rfl) ?_
    refine store_slab _ _ _ 15 (by decide) _ _ _ _ rfl _ (key 15 _ (by decide) slices_S1024x1024_o960_0_S64x1024 rfl) ?_
    refine store_ones _ _ _ 14 _ _ _ _ rfl _ (fun _ _ => rfl) ?_
    refine store_slab _ _ _ 14 (by decide) _ _ _ _ rfl _ (key 14 _ (by decide) slices_S1024x1024_o896_0_S64x1024 rfl) ?_
    refine store_ones _ _ _ 13 _ _ _ _ rfl _ (fun _ _ => rfl) ?_
    refine store_slab _ _ _ 13 (by decide) _ _ _ _ rfl _ (key 13 _ (by decide) slices_S1024x1024_o832_0_S64x1024 rfl) ?_
    refine store_ones _ _ _ 12 _ _ _ _ rfl _ (fun _ _ => rfl) ?_
    refine store_slab _ _ _ 12 (by decide) _ _ _ _ rfl _ (key 12 _ (by decide) slices_S1024x1024_o768_0_S64x1024 rfl) ?_
    refine store_ones _ _ _ 11 _ _ _ _ rfl _ (fun _ _ => rfl) ?_
    refine store_slab _ _ _ 11 (by decide) _ _ _ _ rfl _ (key 11 _ (by decide) slices_S1024x1024_o704_0_S64x1024 rfl) ?_
    refine store_ones _ _ _ 10 _ _ _ _ rfl _ (fun _ _ => rfl) ?_
    refine store_slab _ _ _ 10 (by decide) _ _ _ _ rfl _ (key 10 _ (by decide) slices_S1024x1024_o640_0_S64x1024 rfl) ?_
    refine store_ones _ _ _ 9 _ _ _ _ rfl _ (fun _ _ => rfl) ?_
    refine store_slab _ _ _ 9 (by decide) _ _ _ _ rfl _ (key 9 _ (by decide) slices_S1024x1024_o576_0_S64x1024 rfl) ?_
    refine store_ones _ _ _ 8 _ _ _ _ rfl _ (fun _ _ => rfl) ?_
    refine store_slab _ _ _ 8 (by decide) _ _ _ _ rfl _ (key 8 _ (by decide) slices_S1024x1024_o512_0_S64x1024 rfl) ?_
    refine store_ones _ _ _ 7 _ _ _ _ rfl _ (fun _ _ => rfl) ?_
    refine store_slab _ _ _ 7 (by decide) _ _ _ _ rfl _ (key 7 _ (by decide) slices_S1024x1024_o448_0_S64x1024 rfl) ?_
    refine store_ones _ _ _ 6 _ _ _ _ rfl _ (fun _ _ => rfl) ?_
    refine store_slab _ _ _ 6 (by decide) _ _ _ _ rfl _ (key 6 _ (by decide) slices_S1024x1024_o384_0_S64x1024 rfl) ?_
    refine store_ones _ _ _ 5 _ _ _ _ rfl _ (fun _ _ => rfl) ?_
    refine store_slab _ _ _ 5 (by decide) _ _ _ _ rfl _ (key 5 _ (by decide) slices_S1024x1024_o320_0_S64x1024 rfl) ?_
    refine store_ones _ _ _ 4 _ _ _ _ rfl _ (fun _ _ => rfl) ?_
    refine store_slab _ _ _ 4 (by decide) _ _ _ _ rfl _ (key 4 _ (by decide) slices_S1024x1024_o256_0_S64x1024 rfl) ?_
    refine store_ones _ _ _ 3 _ _ _ _ rfl _ (fun _ _ => rfl) ?_
    refine store_slab _ _ _ 3 (by decide) _ _ _ _ rfl _ (key 3 _ (by decide) slices_S1024x1024_o192_0_S64x1024 rfl) ?_
    refine store_ones _ _ _ 2 _ _ _ _ rfl _ (fun _ _ => rfl) ?_
    refine store_slab _ _ _ 2 (by decide) _ _ _ _ rfl _ (key 2 _ (by decide) slices_S1024x1024_o128_0_S64x1024 rfl) ?_
    refine store_ones _ _ _ 1 _ _ _ _ rfl _ (fun _ _ => rfl) ?_
    refine store_slab _ _ _ 1 (by decide) _ _ _ _ rfl _ (key 1 _ (by decide) slices_S1024x1024_o64_0_S64x1024 rfl) ?_
    refine store_ones _ _ _ 0 _ _ _ _ rfl _ (fun _ _ => rfl) ?_
    refine store_slab _ _ _ 0 (by decide) _ _ _ _ rfl _ (key 0 _ (by decide) slices_S1024x1024_o0_0_S64x1024 rfl) ?_
    rw [View.writes_nil, hf8]; exact (fillV_zero _ _ _).symm
  · iexists _; isplitr; swap
    · iexact H9
    ipureintro
    rw [l0, l1, View.read_writes_cons_put _ _ _ _ _ rfl, View.writes_nil, hf9]

end Cert.KernelIdeal.Hand

end
-- ==== Proof.Attend.lean ====
/- The attending points' body: one block of 256 queries against the three scratch arrays. -/
module

public import proofs.«01_k».proof.Proof.Kit
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Head `h` of 256 queries from row `q0` on. -/
def qTile (d : Vec F S2048x1024 .bf16) (h q0 : ℕ) : FVec F S256x64 .bf16 := fun y =>
  d (ix2 ⟨(q0 + (y 0).val) % 2048, Nat.mod_lt _ (by decide)⟩ ⟨(64 * h + (y 1).val) % 1024, Nat.mod_lt _ (by decide)⟩)

/-- Head `h` of 768 keys from column `ks` on. -/
def kTile (d : Vec F S1024x2048 .bf16) (h ks : ℕ) : Vec F S64x768 .bf16 := fun y =>
  d (ix2 ⟨(64 * h + (y 0).val) % 1024, Nat.mod_lt _ (by decide)⟩ ⟨(ks + (y 1).val) % 2048, Nat.mod_lt _ (by decide)⟩)

/-- Head `h` of 768 values, with its rows of ones, from column `ks` on. -/
def vTile (d : Vec F S1152x2048 .bf16) (h ks : ℕ) : Vec F S72x768 .bf16 := fun y =>
  d (ix2 ⟨(72 * h + (y 0).val) % 1152, Nat.mod_lt _ (by decide)⟩ ⟨(ks + (y 1).val) % 2048, Nat.mod_lt _ (by decide)⟩)

/-- What one head of the block at point `i` attends to. -/
def attendHead (i : grid0.Coords) (d7 : Vec F S1024x2048 .bf16) (d8 : Vec F S1152x2048 .bf16) (d9 : Vec F S2048x1024 .bf16) (h : ℕ) : FVec F S256x64 .f32 :=
  k0_pay47 (k0_pay44 (BitVec.ofNat 32 (i 0).val)) (qTile d9 h (k0_off35 i 0)) (kTile d7 h (k0_off36 i 1)) (vTile d8 h (k0_off36 i 1))

/-- The heads side by side. -/
def attendCtx (i : grid0.Coords) (d7 : Vec F S1024x2048 .bf16) (d8 : Vec F S1152x2048 .bf16) (d9 : Vec F S2048x1024 .bf16) : FVec F S256x1024 .f32 := fun y =>
  attendHead i d7 d8 d9 ((y 1).val / 64) (ix2 (y 0) ⟨(y 1).val % 64, Nat.mod_lt _ (by decide)⟩)

/-- The block of the result computed at point `i`. -/
def attendOut (i : grid0.Coords) (d7 : Vec F S1024x2048 .bf16) (d8 : Vec F S1152x2048 .bf16) (d9 : Vec F S2048x1024 .bf16) (wo : Vec F S1024x1024 .f32) : Vec F S256x1024 .f32 :=
  k0_pay9 (attendCtx i d7 d8 d9) wo

/-- The keys a head of an attending point reads lie inside the scratch array. -/
theorem kBound (i : grid0.Coords) (hc : k0_cond2 i = 1#1) (h : Fin 16) : ∀ a, (![64 * h.val, k0_off36 i 1] : Fin 2 → ℕ) a + S64x768.size a ≤ S1024x2048.size a := fun a =>
  match a with
  | ⟨0, _⟩ => by show 64 * h.val + 64 ≤ 1024; omega
  | ⟨1, _⟩ => k0_off36_inb i hc 1

/-- The values a head of an attending point reads lie inside the scratch array. -/
theorem vBound (i : grid0.Coords) (hc : k0_cond2 i = 1#1) (h : Fin 16) : ∀ a, (![72 * h.val, k0_off36 i 1] : Fin 2 → ℕ) a + S72x768.size a ≤ S1152x2048.size a := fun a =>
  match a with
  | ⟨0, _⟩ => by show 72 * h.val + 72 ≤ 1152; omega
  | ⟨1, _⟩ => k0_off36_inb i hc 1

/-- A head's 64 columns lie inside the block of queries. -/
theorem qSlices (h : Fin 16) : S256x1024.Slices ![0, 64 * h.val] S256x64 := by
  revert h; decide

/-- A load of head `h`'s keys. -/
theorem load_k (v : View sig .tc .vmem S1024x2048 .bf16) (f : v.ty.Contents (Elt F)) (d : Vec F S1024x2048 .bf16) (hf : v.read (Elt F) f = d)
    (h ks : ℕ) (inb : ∀ a, (![64 * h, ks] : Fin 2 → ℕ) a + S64x768.size a ≤ S1024x2048.size a) :
    v.readAt (Elt F) (Rect.unit (s := S1024x2048) ![64 * h, ks] S64x768.size inb).toLoadRect f = kTile d h ks := by
  subst hf
  rw [View.readAt_unit v f inb rfl inb]
  funext y
  have h0 : 64 * h + 64 ≤ 1024 := inb 0
  have h1 : ks + 768 ≤ 2048 := inb 1
  have y0 : (y 0).val < 64 := (y 0).isLt
  have y1 : (y 1).val < 768 := (y 1).isLt
  refine congrArg (v.read (Elt F) f) (funext fun a => Fin.ext ?_)
  match a with
  | ⟨0, _⟩ => show 64 * h + 1 * (y 0).val = (64 * h + (y 0).val) % 1024; omega
  | ⟨1, _⟩ => show ks + 1 * (y 1).val = (ks + (y 1).val) % 2048; omega

/-- A load of head `h`'s values. -/
theorem load_v (v : View sig .tc .vmem S1152x2048 .bf16) (f : v.ty.Contents (Elt F)) (d : Vec F S1152x2048 .bf16) (hf : v.read (Elt F) f = d)
    (h ks : ℕ) (inb : ∀ a, (![72 * h, ks] : Fin 2 → ℕ) a + S72x768.size a ≤ S1152x2048.size a) :
    v.readAt (Elt F) (Rect.unit (s := S1152x2048) ![72 * h, ks] S72x768.size inb).toLoadRect f = vTile d h ks := by
  subst hf
  rw [View.readAt_unit v f inb rfl inb]
  funext y
  have h0 : 72 * h + 72 ≤ 1152 := inb 0
  have h1 : ks + 768 ≤ 2048 := inb 1
  have y0 : (y 0).val < 72 := (y 0).isLt
  have y1 : (y 1).val < 768 := (y 1).isLt
  refine congrArg (v.read (Elt F) f) (funext fun a => Fin.ext ?_)
  match a with
  | ⟨0, _⟩ => show 72 * h + 1 * (y 0).val = (72 * h + (y 0).val) % 1152; omega
  | ⟨1, _⟩ => show ks + 1 * (y 1).val = (ks + (y 1).val) % 2048; omega

/-- A slice of the loaded block of queries at head `h`. -/
theorem load_q (v : View sig .tc .vmem S2048x1024 .bf16) (f : v.ty.Contents (Elt F)) (d : Vec F S2048x1024 .bf16) (hf : v.read (Elt F) f = d)
    (q0 : ℕ) (inb : ∀ a, (![q0, 0] : Fin 2 → ℕ) a + S256x1024.size a ≤ S2048x1024.size a) (h : Fin 16) :
    extractStridedSlice (s := S256x1024) S256x64 ![0, 64 * h.val] (v.readAt (Elt F) (Rect.unit (s := S2048x1024) ![q0, 0] S256x1024.size inb).toLoadRect f) (qSlices h)
      = qTile d h.val q0 := by
  subst hf
  rw [View.readAt_unit v f inb rfl inb]
  funext y
  have h0 : q0 + 256 ≤ 2048 := inb 0
  have y0 : (y 0).val < 256 := (y 0).isLt
  have y1 : (y 1).val < 64 := (y 1).isLt
  refine congrArg (v.read (Elt F) f) (funext fun a => Fin.ext ?_)
  match a with
  | ⟨0, _⟩ => show q0 + 1 * (0 + (y 0).val) = (q0 + (y 0).val) % 2048; omega
  | ⟨1, _⟩ => show 0 + 1 * (64 * h.val + (y 1).val) = (64 * h.val + (y 1).val) % 1024; omega

/-- The concatenation of the heads, one piece per head, is the heads side by side. -/
theorem concat_heads (f : Fin 16 → FVec F S256x64 .f32) (y : S256x1024.Idx)
    (hc : Shape.Concatenates ((List.ofFn fun h : Fin 16 => (⟨S256x64, f h⟩ : (s : Shape) × (s.Idx → F .f32))).map (·.1)) S256x1024 1) :
    concatenate S256x1024 1 (List.ofFn fun h : Fin 16 => (⟨S256x64, f h⟩ : (s : Shape) × (s.Idx → F .f32))) hc y
      = f ⟨(y 1).val / 64, by have : (y 1).val < 1024 := (y 1).isLt; omega⟩ (ix2 (y 0) ⟨(y 1).val % 64, Nat.mod_lt _ (by decide)⟩) :=
  concatenate_ofFn_apply 1 f hc rfl 64 rfl y _ rfl _ rfl fun b hb => match b, hb with | ⟨0, _⟩, _ => rfl | ⟨1, _⟩, hb => absurd rfl hb

variable (c : Dev nD) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S256x1024 .f32) (harg6 : arg6.IsWhole)
    (arg7 : Memref sig .tc .vmem S1024x2048 .bf16) (harg7 : arg7.IsWhole) (arg8 : Memref sig .tc .vmem S1152x2048 .bf16) (harg8 : arg8.IsWhole)
    (arg9 : Memref sig .tc .vmem S2048x1024 .bf16) (harg9 : arg9.IsWhole)

/-- An attending point leaves its block of the result, and everything else as it was. -/
theorem attend_run (hc0 : ¬ k0_cond1 i = 1#1) (hc1 : k0_cond2 i = 1#1)
    (x0 x1 x2 x3 x4 : Vec F S1024x1024 .f32) (x5 : Vec F S256x1024 .f32) (d7 : Vec F S1024x2048 .bf16) (d8 : Vec F S1152x2048 .bf16) (d9 : Vec F S2048x1024 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d7 ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (attendOut i d7 d8 d9 x4)
            ∗ owns (c : Thread nD τ) arg7 fullShare d7 ∗ owns (c : Thread nD τ) arg8 fullShare d8
            ∗ owns (c : Thread nD τ) arg9 fullShare d9) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part5_eq_skeleton, k0_part6_eq_skeleton, k0_part7_eq_skeleton, k0_part8_eq_skeleton, k0_part9_eq_skeleton, k0_part10_eq_skeleton,
    k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, Hk⟩
  sl_exec (disch := first | sl_exact hc0 | sl_exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr; swap
    · iexact H5
    ipureintro
    have l4 : View.readAt (Elt F) arg5.view (Rect.unit ![0, 0] S1024x1024.size inb_S1024x1024_S1024x1024_0_0).toLoadRect f4 = x4 := (View.readAt_full _ _ _).trans hf4
    refine (View.read_writes_full _ _ _ _ _).trans ?_
    rw [← l4]
    refine congrArg (fun z => k0_pay9 z _) ?_
    refine Eq.trans (b := concatenate S256x1024 1 (List.ofFn fun h : Fin 16 => (⟨S256x64,
        k0_pay47 (k0_pay44 (BitVec.ofNat 32 (i 0).val))
          (extractStridedSlice (s := S256x1024) S256x64 ![0, 64 * h.val] (arg9.view.readAt (Elt F) (Rect.unit (s := S2048x1024) ![k0_off35 i 0, 0] S256x1024.size (k0_off35_inb i hc1)).toLoadRect f9) (qSlices h))
          (arg7.view.readAt (Elt F) (Rect.unit (s := S1024x2048) ![64 * h.val, k0_off36 i 1] S64x768.size (kBound i hc1 h)).toLoadRect f7)
          (arg8.view.readAt (Elt F) (Rect.unit (s := S1152x2048) ![72 * h.val, k0_off36 i 1] S72x768.size (vBound i hc1 h)).toLoadRect f8)⟩
        : (s : Shape) × (s.Idx → F .f32)))
        concatenates_S256x64_S256x64_S256x64_S256x64_S256x64_S256x64_S256x64_S256x64_S256x64_S256x64_S256x64_S256x64_S256x64_S256x64_S256x64_S256x64_S256x1024_d1) rfl ?_
    funext y
    refine (concat_heads _ y _).trans ?_
    have hy : (y 1).val / 64 < 16 := by have : (y 1).val < 1024 := (y 1).isLt; omega
    exact congrFun (congr (congr (congrArg (k0_pay47 (k0_pay44 (BitVec.ofNat 32 (i 0).val)))
      (load_q arg9.view f9 d9 hf9 (k0_off35 i 0) (k0_off35_inb i hc1) ⟨(y 1).val / 64, hy⟩))
      (load_k arg7.view f7 d7 hf7 ((y 1).val / 64) (k0_off36 i 1) (kBound i hc1 ⟨(y 1).val / 64, hy⟩)))
      (load_v arg8.view f8 d8 hf8 ((y 1).val / 64) (k0_off36 i 1) (vBound i hc1 ⟨(y 1).val / 64, hy⟩))) _
  isplitl [H7]
  · iexists f7; isplitr; · ipureintro; exact hf7
    iexact H7
  isplitl [H8]
  · iexists f8; isplitr; · ipureintro; exact hf8
    iexact H8
  · iexists f9; isplitr; · ipureintro; exact hf9
    iexact H9

end Cert.KernelIdeal.Hand

end
-- ==== Proof.Filled.lean ====
/- What the scratch arrays hold after the first points: the projected keys, values and queries of the blocks done so far. -/
module

public import proofs.«01_k».proof.Proof.Slabs
public import proofs.«01_k».proof.Proof.Attend

@[expose] public section

set_option maxRecDepth 16384

noncomputable section

namespace Cert.KernelIdeal.Hand

open Idealize.ShloMosaic Idealize.ShloMosaic.TcCoe
open Idealize.SL Idealize.SL.Sem
open Cert.KernelIdeal.Gen

variable {F : FTy → Type} [FloatOps F] [Named F]

variable (m : (ℓ : Loc nD τ sig) → Buf (Elt F) ℓ)

/-- The grid point of number `b`. -/
def pt (b : ℕ) : Fin cfg0.N := ⟨b % 10, lt_of_lt_of_eq (Nat.mod_lt _ (by decide)) N_0.symm⟩

/-- The grid point of a point's number is the point. -/
theorem pt_val (t : Fin cfg0.N) : pt t.val = t := Fin.ext (Nat.mod_eq_of_lt (lt_of_lt_of_eq t.isLt N_0))

/-- The projected keys of the whole array: column `c` is computed at point `c / 1024`. -/
def keys (c : Dev nD) : Vec F S1024x2048 .bf16 := fun y =>
  k0_pay11 (iblk m c 0 (pt ((y 1).val / 1024))) (iblk m c 2 (pt ((y 1).val / 1024))) (ix2 (y 0) ⟨(y 1).val % 1024, Nat.mod_lt _ (by decide)⟩)

/-- The projected values of the whole array with the rows of ones between the heads. -/
def values (c : Dev nD) : Vec F S1152x2048 .bf16 := fun y =>
  valueEntry (k0_pay13 (iblk m c 0 (pt ((y 1).val / 1024))) (iblk m c 3 (pt ((y 1).val / 1024)))) (y 0).val ((y 1).val % 1024)

/-- The scaled projected queries of the whole array: row `r` is computed at point `r / 1024`. -/
def queries (c : Dev nD) : Vec F S2048x1024 .bf16 := fun y =>
  k0_pay12 (iblk m c 0 (pt ((y 0).val / 1024))) (iblk m c 1 (pt ((y 0).val / 1024))) (ix2 ⟨(y 0).val % 1024, Nat.mod_lt _ (by decide)⟩ (y 1))

/-- After `n` points the first `min n 2` blocks of 1024 positions hold the projections. -/
structure Filled (c : Dev nD) (n : ℕ) (d7 : Vec F S1024x2048 .bf16) (d8 : Vec F S1152x2048 .bf16) (d9 : Vec F S2048x1024 .bf16) : Prop where
  k : ∀ y, (y 1).val < 1024 * min n 2 → d7 y = keys m c y
  v : ∀ y, (y 1).val < 1024 * min n 2 → d8 y = values m c y
  q : ∀ y, (y 0).val < 1024 * min n 2 → d9 y = queries m c y

/-- Before the first point nothing is asked. -/
theorem filled_zero (c : Dev nD) (d7 d8 d9) : Filled m c 0 d7 d8 d9 :=
  ⟨fun y h => absurd h (by simp), fun y h => absurd h (by simp), fun y h => absurd h (by simp)⟩

/-- From point 2 on the arrays are the projections. -/
theorem filled_all (c : Dev nD) (n : ℕ) (hn : 2 ≤ n) (d7 d8 d9) (h : Filled m c n d7 d8 d9) :
    d7 = keys m c ∧ d8 = values m c ∧ d9 = queries m c := by
  have e : min n 2 = 2 := by omega
  refine ⟨funext fun y => h.k y ?_, funext fun y => h.v y ?_, funext fun y => h.q y ?_⟩
  · have : (y 1).val < 2048 := (y 1).isLt
    omega
  · have : (y 1).val < 2048 := (y 1).isLt
    omega
  · have : (y 0).val < 2048 := (y 0).isLt
    omega

/-- And stay so. -/
theorem filled_stays (c : Dev nD) (n : ℕ) (hn : 2 ≤ n) (d7 d8 d9) (h : Filled m c n d7 d8 d9) : Filled m c (n + 1) d7 d8 d9 := by
  have e : min (n + 1) 2 = min n 2 := by omega
  exact ⟨fun y hy => h.k y (e ▸ hy), fun y hy => h.v y (e ▸ hy), fun y hy => h.q y (e ▸ hy)⟩

/-- The keys and values of point `t` are stored from column `1024 t` on. -/
theorem off1_eq : ∀ t : Fin cfg0.N, t.val < 2 → k0_off1 (grid0.coords t) = ![0, 1024 * t.val] :=
  (by decide +kernel : ∀ t : Fin grid0.N, t.val < 2 → k0_off1 (grid0.coords t) = ![0, 1024 * t.val])
/-- The queries of point `t` are stored from row `1024 t` on. -/
theorem off2_eq : ∀ t : Fin cfg0.N, t.val < 2 → k0_off2 (grid0.coords t) = ![1024 * t.val, 0] :=
  (by decide +kernel : ∀ t : Fin grid0.N, t.val < 2 → k0_off2 (grid0.coords t) = ![1024 * t.val, 0])

/-- A projecting point fills its block. -/
theorem filled_step (c : Dev nD) (t : Fin cfg0.N) (ht : t.val < 2) (d7 d8 d9) (h : Filled m c t.val d7 d8 d9) :
    Filled m c (t.val + 1)
      (VecWindow.put d7 (k0_off1 (grid0.coords t)) S1024x1024.size (k0_pay11 (iblk m c 0 t) (iblk m c 2 t)))
      (fillV (k0_off1 (grid0.coords t) 1) (72 * 15 + 72) (k0_pay13 (iblk m c 0 t) (iblk m c 3 t)) d8)
      (VecWindow.put d9 (k0_off2 (grid0.coords t)) S1024x1024.size (k0_pay12 (iblk m c 0 t) (iblk m c 1 t))) := by
  have en : min (t.val + 1) 2 = t.val + 1 := by omega
  have eo : min t.val 2 = t.val := by omega
  refine ⟨fun y hy => ?_, fun y hy => ?_, fun y hy => ?_⟩
  · rw [en] at hy
    have y0 : (y 0).val < 1024 := (y 0).isLt
    unfold VecWindow.put
    rw [off1_eq t ht]
    by_cases hb : 1024 * t.val ≤ (y 1).val
    · have hd : (y 1).val / 1024 = t.val := by omega
      rw [dif_pos (show ∀ a, (![0, 1024 * t.val] : Fin 2 → ℕ) a ≤ (y a).val ∧ (y a).val < (![0, 1024 * t.val] : Fin 2 → ℕ) a + S1024x1024.size a from
        fun a => match a with
          | ⟨0, _⟩ => ⟨Nat.zero_le _, by show (y 0).val < 0 + 1024; omega⟩
          | ⟨1, _⟩ => ⟨hb, by show (y 1).val < 1024 * t.val + 1024; omega⟩)]
      unfold keys
      rw [hd, pt_val]
      refine congrArg _ (funext fun a => Fin.ext ?_)
      match a with
      | ⟨0, _⟩ => show (y 0).val - 0 = (y 0).val; omega
      | ⟨1, _⟩ => show (y 1).val - 1024 * t.val = (y 1).val % 1024; omega
    · rw [dif_neg fun hh => hb (hh 1).1]
      exact h.k y (by rw [eo]; omega)
  · rw [en] at hy
    have y0 : (y 0).val < 1152 := (y 0).isLt
    unfold fillV
    rw [off1_eq t ht]
    by_cases hb : 1024 * t.val ≤ (y 1).val
    · have hd : (y 1).val / 1024 = t.val := by omega
      rw [if_pos ⟨hb, (by show (y 1).val < 1024 * t.val + 1024; omega), y0⟩]
      unfold values
      rw [hd, pt_val]
      exact congrArg _ (by show (y 1).val - 1024 * t.val = (y 1).val % 1024; omega)
    · rw [if_neg fun hh => hb hh.1]
      exact h.v y (by rw [eo]; omega)
  · rw [en] at hy
    have y1 : (y 1).val < 1024 := (y 1).isLt
    unfold VecWindow.put
    rw [off2_eq t ht]
    by_cases hb : 1024 * t.val ≤ (y 0).val
    · have hd : (y 0).val / 1024 = t.val := by omega
      rw [dif_pos (show ∀ a, (![1024 * t.val, 0] : Fin 2 → ℕ) a ≤ (y a).val ∧ (y a).val < (![1024 * t.val, 0] : Fin 2 → ℕ) a + S1024x1024.size a from
        fun a => match a with
          | ⟨0, _⟩ => ⟨hb, by show (y 0).val < 1024 * t.val + 1024; omega⟩
          | ⟨1, _⟩ => ⟨Nat.zero_le _, by show (y 1).val < 0 + 1024; omega⟩)]
      unfold queries
      rw [hd, pt_val]
      refine congrArg _ (funext fun a => Fin.ext ?_)
      match a with
      | ⟨0, _⟩ => show (y 0).val - 1024 * t.val = (y 0).val % 1024; omega
      | ⟨1, _⟩ => show (y 1).val - 0 = (y 1).val; omega
    · rw [dif_neg fun hh => hb (hh 0).1]
      exact h.q y (by rw [eo]; omega)

end Cert.KernelIdeal.Hand

end
-- ==== Proof.Point.lean ====
/- The pipeline's proof data, the body obligation at every grid point, and the launch. -/
module

public import proofs.«01_k».proof.Proof.Project
public import proofs.«01_k».proof.Proof.Filled

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the result that point `t` leaves. -/
def outBlock (c : Dev nD) (t : Fin cfg0.N) : Vec F S256x1024 .f32 :=
  attendOut (grid0.coords t) (keys m c) (values m c) (queries m c) (iblk m c 4 t)

/-- After `n` points: the scratch arrays hold the projections of the blocks done so far. -/
def inv (c : Dev nD) (n : ℕ) : sProp 𝕄 :=
  iprop(∃ d7, ∃ d8, ∃ d9, owns (c : Thread nD τ) scrK fullShare d7 ∗ owns (c : Thread nD τ) scrV fullShare d8
    ∗ owns (c : Thread nD τ) scrQ fullShare d9 ∗ ⌜Filled m c n d7 d8 d9⌝ ∗ (∃ r, prngReg c r))

/-- The proof data: each input's buffer keeps its block, the output's buffer holds its block of the result, the scratch
    arrays as `inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ n := inv m c n.val
  q _ := fullShare
  owed _ := 0

/-- The arrays at the start are the buffers at the region's entry. -/
theorem A_eq (c : Dev nD) (w : Fin cfg0.W) : (dats m 0 c).A w = V m c (Pipeline.arrRef spec0 w) := by
  dsimp only [dats]

/-- The tokens' block stays as it was staged. -/
theorem after_0 (c : Dev nD) (t : Fin cfg0.N) : (dats m 0 c).after 0 t = iblk m c 0 t := by dsimp only [dats]
/-- After a point the window of the query weight holds what the proof data say. -/
theorem after_1 (c : Dev nD) (t : Fin cfg0.N) : (dats m 0 c).after 1 t = iblk m c 1 t := by dsimp only [dats]
/-- After a point the window of the key weight holds what the proof data say. -/
theorem after_2 (c : Dev nD) (t : Fin cfg0.N) : (dats m 0 c).after 2 t = iblk m c 2 t := by dsimp only [dats]
/-- After a point the window of the value weight holds what the proof data say. -/
theorem after_3 (c : Dev nD) (t : Fin cfg0.N) : (dats m 0 c).after 3 t = iblk m c 3 t := by dsimp only [dats]
/-- After a point the window of the output weight holds what the proof data say. -/
theorem after_4 (c : Dev nD) (t : Fin cfg0.N) : (dats m 0 c).after 4 t = iblk m c 4 t := by dsimp only [dats]
/-- After a point the window of the result's block holds what the proof data say. -/
theorem after_5 (c : Dev nD) (t : Fin cfg0.N) : (dats m 0 c).after 5 t = outBlock m c t := by dsimp only [dats]

/-- Before a point the tokens' block is staged. -/
theorem before_0 (c : Dev nD) (t : Fin cfg0.N) (d) : (dats m 0 c).before 0 t d = iblk m c 0 t :=
  before0_0_of m (dats m 0 c) (A_eq m c 0) (after_0 m c) t d
/-- Before a point the query weight is staged. -/
theorem before_1 (c : Dev nD) (t : Fin cfg0.N) (d) : (dats m 0 c).before 1 t d = iblk m c 1 t :=
  before0_1_of m (dats m 0 c) (A_eq m c 1) (after_1 m c) t d
/-- Before a point the key weight is staged. -/
theorem before_2 (c : Dev nD) (t : Fin cfg0.N) (d) : (dats m 0 c).before 2 t d = iblk m c 2 t :=
  before0_2_of m (dats m 0 c) (A_eq m c 2) (after_2 m c) t d
/-- Before a point the value weight is staged. -/
theorem before_3 (c : Dev nD) (t : Fin cfg0.N) (d) : (dats m 0 c).before 3 t d = iblk m c 3 t :=
  before0_3_of m (dats m 0 c) (A_eq m c 3) (after_3 m c) t d
/-- Before a point the output weight is staged. -/
theorem before_4 (c : Dev nD) (t : Fin cfg0.N) (d) : (dats m 0 c).before 4 t d = iblk m c 4 t :=
  before0_4_of m (dats m 0 c) (A_eq m c 4) (after_4 m c) t d

/-- The tokens' window is staged at every point. -/
theorem live_0 : ∀ t : Fin cfg0.N, cfg0.idle 0 (grid0.coords t) = false := fun _ => rfl
/-- The window of the query weight is staged at every point. -/
theorem live_1 : ∀ t : Fin cfg0.N, cfg0.idle 1 (grid0.coords t) = false := fun _ => rfl
/-- The window of the key weight is staged at every point. -/
theorem live_2 : ∀ t : Fin cfg0.N, cfg0.idle 2 (grid0.coords t) = false := fun _ => rfl
/-- The window of the value weight is staged at every point. -/
theorem live_3 : ∀ t : Fin cfg0.N, cfg0.idle 3 (grid0.coords t) = false := fun _ => rfl
/-- The window of the output weight is staged at every point. -/
theorem live_4 : ∀ t : Fin cfg0.N, cfg0.idle 4 (grid0.coords t) = false := fun _ => rfl
/-- The output window is left alone at the projecting points, and is not written back there. -/
theorem idle_5 : ∀ t : Fin cfg0.N, t.val < 2 → cfg0.idle 5 (grid0.coords t) = true ∧ (cfg0.win 5).flush t = false :=
  (by decide +kernel : ∀ t : Fin grid0.N, t.val < 2 → cfg0.idle 5 (grid0.coords t) = true ∧ (cfg0.win 5).flush t = false)
/-- The result's window is live at the attending points. -/
theorem live_5 : ∀ t : Fin cfg0.N, 2 ≤ t.val → cfg0.idle 5 (grid0.coords t) = false :=
  (by decide +kernel : ∀ t : Fin grid0.N, 2 ≤ t.val → cfg0.idle 5 (grid0.coords t) = false)

/-- A point leaves the tokens' block as it was. -/
theorem leaves_0 (c : Dev nD) (t : Fin cfg0.N) : (dats m 0 c).leavesExact 0 t = owns (c : Thread nD τ) (stg0 t) fullShare (iblk m c 0 t) := by
  unfold Dat.leavesExact; rw [live_0 t, ← after_0]
/-- A point leaves the query weight as it was. -/
theorem leaves_1 (c : Dev nD) (t : Fin cfg0.N) : (dats m 0 c).leavesExact 1 t = owns (c : Thread nD τ) (stg1 t) fullShare (iblk m c 1 t) := by
  unfold Dat.leavesExact; rw [live_1 t, ← after_1]
/-- A point leaves the key weight as it was. -/
theorem leaves_2 (c : Dev nD) (t : Fin cfg0.N) : (dats m 0 c).leavesExact 2 t = owns (c : Thread nD τ) (stg2 t) fullShare (iblk m c 2 t) := by
  unfold Dat.leavesExact; rw [live_2 t, ← after_2]
/-- A point leaves the value weight as it was. -/
theorem leaves_3 (c : Dev nD) (t : Fin cfg0.N) : (dats m 0 c).leavesExact 3 t = owns (c : Thread nD τ) (stg3 t) fullShare (iblk m c 3 t) := by
  unfold Dat.leavesExact; rw [live_3 t, ← after_3]
/-- A point leaves the output weight as it was. -/
theorem leaves_4 (c : Dev nD) (t : Fin cfg0.N) : (dats m 0 c).leavesExact 4 t = owns (c : Thread nD τ) (stg4 t) fullShare (iblk m c 4 t) := by
  unfold Dat.leavesExact; rw [live_4 t, ← after_4]
/-- A projecting point leaves the result's block at any contents. -/
theorem leaves_5_idle (c : Dev nD) (t : Fin cfg0.N) (ht : t.val < 2) :
    (dats m 0 c).leavesExact 5 t = iprop(∃ d, owns (c : Thread nD τ) (stg5 t) fullShare ((dats m 0 c).before 5 t d)) := by
  unfold Dat.leavesExact; rw [(idle_5 t ht).1, (idle_5 t ht).2]
/-- An attending point leaves its block of the result. -/
theorem leaves_5_live (c : Dev nD) (t : Fin cfg0.N) (ht : 2 ≤ t.val) :
    (dats m 0 c).leavesExact 5 t = owns (c : Thread nD τ) (stg5 t) fullShare (outBlock m c t) := by
  unfold Dat.leavesExact; rw [live_5 t ht, ← after_5]

/-- What the body is called with at point `t`, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: a projecting point fills its block of the scratch arrays, an attending point leaves its block of
    the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.castSucc = inv m c t.val from rfl, show (dats m 0 c).Φ t.succ = inv m c (t.val + 1) from rfl,
    leaves_0, leaves_1, leaves_2, leaves_3, leaves_4]
  unfold inv
  by_cases h0 : t.val < 2
  · rw [leaves_5_idle m c t h0]
    iintro ⟨⟨%d7, %d8, %d9, HS0, HS1, HS2, %hfill, Hg⟩, Ho, ⟨%e0, H0⟩, ⟨%e1, H1⟩, ⟨%e2, H2⟩, ⟨%e3, H3⟩, ⟨%e4, H4⟩, ⟨%e5, H5⟩⟩
    iapply (project_run c (grid0.coords t) _ _ _ _ _ _ _ _ _ _ _ _ _ _ _ _ _ _ ((projects_iff t).mpr h0) (fun h => absurd ((attends_iff t).mp h) (by omega))
      (iblk m c 0 t) (iblk m c 1 t) (iblk m c 2 t) (iblk m c 3 t) (iblk m c 4 t) ((dats m 0 c).before 5 t e5) d7 d8 d9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · iexists _; iexists _; iexists _
      isplitl [HS0]; · iexact HS0
      isplitl [HS1]; · iexact HS1
      isplitl [HS2]; · iexact HS2
      isplitr; · ipureintro; exact filled_step m c t h0 d7 d8 d9 hfill
      iexact Hg
    isplitl [Ho]; · iexact Ho
    isplitl [H0]; · iexact H0
    isplitl [H1]; · iexact H1
    isplitl [H2]; · iexact H2
    isplitl [H3]; · iexact H3
    isplitl [H4]; · iexact H4
    iexists e5; iexact H5
  · have h1 : 2 ≤ t.val := by omega
    rw [leaves_5_live m c t h1]
    iintro ⟨⟨%d7, %d8, %d9, HS0, HS1, HS2, %hfill, Hg⟩, Ho, ⟨%e0, H0⟩, ⟨%e1, H1⟩, ⟨%e2, H2⟩, ⟨%e3, H3⟩, ⟨%e4, H4⟩, ⟨%e5, H5⟩⟩
    obtain ⟨rfl, rfl, rfl⟩ := filled_all m c t.val h1 d7 d8 d9 hfill
    iapply (attend_run c (grid0.coords t) _ _ _ _ _ _ _ _ _ _ _ _ _ _ _ _ _ _ (fun h => h0 ((projects_iff t).mp h)) ((attends_iff t).mpr h1)
      (iblk m c 0 t) (iblk m c 1 t) (iblk m c 2 t) (iblk m c 3 t) (iblk m c 4 t) ((dats m 0 c).before 5 t e5) _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · iexists _; iexists _; iexists _
      isplitl [HS0]; · iexact HS0
      isplitl [HS1]; · iexact HS1
      isplitl [HS2]; · iexact HS2
      isplitr; · ipureintro; exact filled_stays m c t.val h1 _ _ _ hfill
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body that a point runs is the kernel's. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the body its scratch arrays at some contents, -/
theorem inv_in (c : Dev nD) : (Pipeline.ΦA spec0 c : sProp 𝕄) ⊢ (dats m 0 c).Φ 0 := by
  rw [rest_eq, show (dats m 0 c).Φ 0 = inv m c 0 from rfl]
  unfold inv
  iintro ⟨⟨⟨%d7, H7⟩, ⟨%d8, H8⟩, ⟨%d9, H9⟩⟩, Hg⟩
  iexists d7; iexists d8; iexists d9
  isplitl [H7]; · iexact H7
  isplitl [H8]; · iexact H8
  isplitl [H9]; · iexact H9
  isplitr; · ipureintro; exact filled_zero m c d7 d8 d9
  iexact Hg

/-- and takes them back. -/
theorem inv_out (c : Dev nD) : (dats m 0 c).Φ (Fin.last cfg0.N) ⊢ (Pipeline.ΦA spec0 c : sProp 𝕄) := by
  rw [rest_eq, show (dats m 0 c).Φ (Fin.last cfg0.N) = inv m c cfg0.N from rfl]
  unfold inv
  iintro ⟨%d7, %d8, %d9, H7, H8, H9, -, Hg⟩
  isplitl [H7 H8 H9]
  · isplitl [H7]; · iexists d7; iexact H7
    isplitl [H8]; · iexists d8; iexact H8
    iexists d9; iexact H9
  iexact Hg

set_option backward.isDefEq.respectTransparency.types false in
set_option maxHeartbeats 800000 in
/-- The launch: every array of the pipeline ends at what the proof data say, every other buffer at what the host lines
    leave, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m) (hQ' := fun _ h => h)

end Cert.KernelIdeal.Hand

end
-- ==== Proof.Out.lean ====
/- The result array after the launch: block `i` of 256 rows is what grid point `i + 2` leaves. -/
module

public import proofs.«01_k».proof.Proof.Point
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F] [Named F]

variable (m : (ℓ : Loc nD τ sig) → Buf (Elt F) ℓ) (ρ : Dev nD → PrngReg)

/-- The result rows of the whole array: row `r` is row `r % 256` of what point `r / 256 + 2` leaves. -/
def whole (c : Dev nD) : Vec F S2048x1024 .f32 := fun y =>
  outBlock m c (pt ((y 0).val / 256 + 2)) (ix2 ⟨(y 0).val % 256, Nat.mod_lt _ (by decide)⟩ (y 1))

/-- A point that writes its block back is an attending one and writes block `t - 2`. -/
theorem flush_5 : ∀ t : Fin cfg0.N, (cfg0.win 5).flush t = true → (cfg0.win 5).index t = ![t.val - 2, 0] ∧ 2 ≤ t.val :=
  (by decide +kernel : ∀ t : Fin grid0.N, (cfg0.win 5).flush t = true → (cfg0.win 5).index t = ![t.val - 2, 0] ∧ 2 ≤ t.val)

/-- The output array after the last point. -/
theorem out_arr (c : Dev nD) : (dats m 0 c).arrAt 5 (cfgs 0).N = whole m c := by
  refine (dats m 0 c).arrAt_eq_of_covers 5 _ (by decide +kernel) fun t hf y => ?_
  have hidx := (flush_5 t hf).1
  have ht := (flush_5 t hf).2
  have htl : t.val < 10 := lt_of_lt_of_eq t.isLt N_0
  have y0 : (y 0).val < 256 := (y 0).isLt
  blk_simp
  rw [after_5]
  have e0 : (((win0_5.blk t).view.emb y) 0).val = (t.val - 2) * 256 + (y 0).val := by
    blk_simp [hidx]
  have e1 : (((win0_5.blk t).view.emb y) 1).val = (y 1).val := by
    blk_simp [hidx]
  unfold whole
  have ep : pt ((((win0_5.blk t).view.emb y) 0).val / 256 + 2) = t := by
    rw [show (((win0_5.blk t).view.emb y) 0).val / 256 + 2 = t.val by omega, pt_val]
  rw [ep]
  refine congrArg (outBlock m c t) (funext fun a => Fin.ext ?_)
  match a with
  | ⟨0, _⟩ => show (y 0).val = (((win0_5.blk t).view.emb y) 0).val % 256; omega
  | ⟨1, _⟩ => exact e1.symm

/-- The windows stage different arrays. -/
theorem arr_distinct : Function.Injective (Pipeline.arrRef spec0) := winFacts0.arr_inj

set_option maxHeartbeats 800000 in
/-- The tail line puts a unit axis before the rows. -/
theorem tail_v2 (c : Dev nD) : Pipeline.afterTail₀ cfgs (dats m) 0 (V0 m) [hostOps1] c main_v2
    = broadcastInDim S1x2048x1024 ![1, 2] bcast_S2048x1024_S1x2048x1024_1_2 (whole m c) := by
  unfold Pipeline.afterTail₀
  simp only [hostOps1, List.flatten_cons, List.flatten_nil, List.append_nil]
  after_results
  exact congrArg (broadcastInDim S1x2048x1024 ![1, 2] bcast_S2048x1024_S1x2048x1024_1_2)
    ((Pipeline.withArrays_arr spec0 arr_distinct c (V0 m c) (fun w => (dats m 0 c).arrAt w (cfgs 0).N) 5).trans (out_arr m c))

set_option maxHeartbeats 800000 in
/-- The run of the kernel: the result buffer holds `whole` under a unit axis, every argument is unchanged and every
    semaphore counter ends at zero. -/
theorem kernel_run : θ_run defs (onTc (τ := τ) (main (F := F))) ⟨m, fun _ => 0, ρ⟩ (fun r => (∀ c : Dev nD,
      r.2.mem ((c.tc : Thread nD τ).loc main_v2) = broadcastInDim S1x2048x1024 ![1, 2] bcast_S2048x1024_S1x2048x1024_1_2 (whole m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have hrun := run_main m ρ
  have hv := (θ_run defs _ _).mono (fun _ h c => (h.1.rest_eq c main_v2 (Pipeline.mem_restRefs_of main_v2 (by decide) (by decide))).trans (tail_v2 m c)) hrun
  have ha := frame_of m ρ (dats m) (A_eq m) ((θ_run defs _ _).mono (fun _ h => h.1) hrun)
  have hs := (θ_run defs _ _).mono (fun _ h => h.2) hrun
  exact θ_run_and ((θ_run defs _ _).mono (fun _ h c => ⟨h.1 c, h.2 c⟩) (θ_run_and hv ha)) hs

/-- The frame alone: every argument is unchanged and every semaphore counter ends at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (kernel_run m ρ)

end Cert.KernelIdeal.Hand

end
-- ==== Proof.KFrame.lean ====
/- The kernel at machine floats: its frame. The idealized kernel's program is proved at any floats with a reading of the
   named constant; read as its own literal, that program is the kernel. -/
module

public import proofs.«01_k».proof.Proof.Gen.Kernel
public import proofs.«01_k».proof.Proof.Out

@[expose] public section

set_option maxRecDepth 16384

noncomputable section

namespace Cert.Kernel.Hand

open Idealize.ShloMosaic Idealize.SL.Sem

/-- At machine floats a named constant is read as its literal. -/
local instance literal : Named Bits where
  named _ _ {φ} bits := FloatOps.ofBits φ bits

/-- The two bodies are one program, -/
theorem body_eq : Cert.KernelIdeal.cc0__fused_kernel (F := Bits) = Cert.Kernel.cc0__fused_kernel (F := Bits) := rfl

/-- so are the tables of bodies, -/
theorem table_eq : Cert.KernelIdeal.defs₀ (F := Bits) = Cert.Kernel.defs₀ (F := Bits) := by
  unfold Cert.KernelIdeal.defs₀ Cert.Kernel.defs₀
  refine congrArg Defs.onTc (funext fun l => ?_)
  match l with
  | 0 =>
    refine funext fun ⟨t, s⟩ => ?_
    dsimp only
    rw [← body_eq]
    rfl

/-- the tables with the pipeline's entry, -/
theorem defs_eq : Cert.KernelIdeal.defs (F := Bits) = Cert.Kernel.defs (F := Bits) := by
  unfold Cert.KernelIdeal.defs Cert.Kernel.defs
  exact congrArg _ table_eq

/-- and the two entry points. -/
theorem main_eq : Cert.KernelIdeal.main (F := Bits) = Cert.Kernel.main (F := Bits) := rfl

/-- The kernel's run at machine floats ends with every argument unchanged and every semaphore counter at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) := by
  rw [← defs_eq, ← main_eq]
  exact Cert.KernelIdeal.Hand.kernel_frame (F := Bits) m g

end Cert.Kernel.Hand

end
-- ==== Proof.RFrame.lean ====
/- The run of the reference, with its counters. -/
module

public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.SL.Sem
open Cert.ReferenceIdeal.Value (res_main_v63)

variable {F : FTy → Type} [FloatOps F]

/-- The reference's run: the result is its composed term of the arguments, every argument is unchanged, and every semaphore
    counter ends at zero, there being none. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v63) = res_main_v63 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨h, sem_eq_zero_of_no_sems (by decide) r.2⟩) (Cert.ReferenceIdeal.Value.run m ρ)

end Cert.ReferenceIdeal.Hand

end
-- ==== Proof.Window.lean ====
module

public import Idealize.ShloMosaic.Lib.IdealHost

@[expose] public section

/-! Softmax over a band of keys, on the extended reals: a window of consecutive keys that holds the
whole band gives the same weighted mean as all the keys. -/

noncomputable section

namespace Cert.Attn

open Idealize.ShloMosaic

/-- Query `q` may look at key `k`: they are at most 256 apart. -/
def Near (q k : ℕ) : Prop := q ≤ k + 256 ∧ k ≤ q + 256

instance (q k : ℕ) : Decidable (Near q k) := by unfold Near; infer_instance

/-- The greatest of finitely many extended reals, `⊥` if there are none. -/
def greatest {ι : Type} [Fintype ι] (f : ι → EReal) : EReal := Finset.univ.fold max ⊥ f

/-- The greatest is the supremum. -/
theorem greatest_eq_sup {ι : Type} [Fintype ι] (f : ι → EReal) : greatest f = Finset.univ.sup f := rfl

/-- The greatest over a family of indices that reaches every value other than `⊥` is the greatest over all. -/
theorem greatest_comp {ι κ : Type} [Fintype ι] [Fintype κ] (g : κ → ι) (f : ι → EReal)
    (h : ∀ k, f k ≠ ⊥ → ∃ j, g j = k) : greatest (fun j => f (g j)) = greatest f := by
  rw [greatest_eq_sup, greatest_eq_sup]
  refine le_antisymm (Finset.sup_le fun j _ => Finset.le_sup (f := f) (Finset.mem_univ (g j))) (Finset.sup_le fun k _ => ?_)
  by_cases hk : f k = ⊥
  · rw [hk]; exact bot_le
  · obtain ⟨j, rfl⟩ := h k hk
    exact Finset.le_sup (f := fun j => f (g j)) (Finset.mem_univ j)

/-- The sum over an injective family of indices that reaches every term other than `0` is the whole sum. -/
theorem sum_comp {ι κ : Type} [Fintype ι] [Fintype κ] (g : κ → ι) (hg : Function.Injective g) (f : ι → EReal)
    (h : ∀ k, f k ≠ 0 → ∃ j, g j = k) : ∑ j, f (g j) = ∑ k, f k := by
  classical
  rw [← Finset.sum_image (s := Finset.univ) (g := g) (f := f) (fun a _ b _ e => hg e)]
  refine Finset.sum_subset (Finset.subset_univ _) fun k _ hk => ?_
  by_contra h0
  obtain ⟨j, rfl⟩ := h k h0
  exact hk (Finset.mem_image_of_mem g (Finset.mem_univ j))

/-- The greatest of values none of which is `⊤` and one of which is a real is a real. -/
theorem greatest_real {ι : Type} [Fintype ι] (f : ι → EReal) (ht : ∀ k, f k ≠ ⊤) (k₀ : ι) (h₀ : f k₀ ≠ ⊥) :
    ∃ M : ℝ, greatest f = M := by
  have hb : greatest f ≠ ⊥ := by
    rw [greatest_eq_sup]
    exact ne_of_gt (lt_of_lt_of_le (bot_lt_iff_ne_bot.2 h₀) (Finset.le_sup (f := f) (Finset.mem_univ k₀)))
  have hT : greatest f ≠ ⊤ := by
    rw [greatest_eq_sup]
    exact ne_of_lt ((Finset.sup_lt_iff bot_lt_top).2 fun k _ => lt_top_iff_ne_top.2 (ht k))
  exact ⟨(greatest f).toReal, (EReal.coe_toReal hT hb).symm⟩

/-- A finite sum times a positive real is the sum of the products. -/
theorem sum_mul_pos {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A finite sum of reals is a real. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The weight of a key before normalising: the exponential of its score less the greatest. -/
def weight {ι : Type} [Fintype ι] (f : ι → EReal) (k : ι) : EReal := Ideal.exp (f k - greatest f)

/-- Weights of real or `⊥` scores, one of them real, are nonnegative reals with a positive sum, and `0` where the score is `⊥`. -/
theorem weight_real {ι : Type} [Fintype ι] (f : ι → EReal) (ht : ∀ k, f k ≠ ⊤) (k₀ : ι) (h₀ : f k₀ ≠ ⊥) :
    ∃ a : ι → ℝ, (∀ k, weight f k = a k) ∧ 0 < ∑ k, a k ∧ ∀ k, f k = ⊥ → weight f k = 0 := by
  obtain ⟨M, hM⟩ := greatest_real f ht k₀ h₀
  have hbot : ∀ k, f k = ⊥ → weight f k = 0 := fun k hk => by
    unfold weight; rw [hk, hM]; rfl
  have hreal : ∀ k, f k ≠ ⊥ → weight f k = ((Real.exp ((f k).toReal - M) : ℝ) : EReal) := fun k hk => by
    unfold weight
    rw [hM, ← EReal.coe_toReal (ht k) hk, ← EReal.coe_sub]; rfl
  classical
  refine ⟨fun k => if f k = ⊥ then 0 else Real.exp ((f k).toReal - M), fun k => ?_, ?_, hbot⟩
  · by_cases hk : f k = ⊥
    · rw [hbot k hk]; simp [hk]
    · rw [hreal k hk]; simp [hk]
  · refine Finset.sum_pos' (fun k _ => ?_) ⟨k₀, Finset.mem_univ k₀, ?_⟩
    · by_cases hk : f k = ⊥
      · simp [hk]
      · simpa [hk] using (Real.exp_pos _).le
    · simpa [h₀] using Real.exp_pos _

/-- The mean of `v` over the softmax weights of the scores `f`. -/
def mean {ι : Type} [Fintype ι] (f v : ι → EReal) : EReal := ∑ k, v k * Ideal.div (weight f k) (∑ k, weight f k)

/-- The weighted sum over the window, divided by the sum of the weights over the window, is the mean over all keys. -/
theorem window_mean {ι κ : Type} [Fintype ι] [Fintype κ] (g : κ → ι) (hg : Function.Injective g) (f v : ι → EReal)
    (ht : ∀ k, f k ≠ ⊤) (k₀ : ι) (h₀ : f k₀ ≠ ⊥) (h : ∀ k, f k ≠ ⊥ → ∃ j, g j = k) :
    Ideal.div (∑ j, weight (fun j => f (g j)) j * v (g j)) (∑ j, weight (fun j => f (g j)) j) = mean f v := by
  obtain ⟨a, ha, hpos, hbot⟩ := weight_real f ht k₀ h₀
  have hw : ∀ j, weight (fun j => f (g j)) j = weight f (g j) := fun j => by
    unfold weight; rw [greatest_comp g f h]
  have hne : ∀ k, weight f k ≠ 0 → ∃ j, g j = k := fun k hk => h k fun e => hk (hbot k e)
  simp only [hw]
  rw [sum_comp g hg (weight f) hne,
    sum_comp g hg (fun k => weight f k * v k) (fun k hk => hne k fun e => hk (by rw [e, zero_mul]))]
  unfold mean
  have hs : ∑ k, weight f k = ((∑ k, a k : ℝ) : EReal) := by simp only [ha]; exact sum_coe _ a
  rw [hs, Ideal.div_coe hpos.ne', sum_mul_pos _ _ _ (by positivity)]
  refine Finset.sum_congr rfl fun k _ => ?_
  rw [Ideal.div_coe hpos.ne', mul_comm (weight f k) (v k), mul_assoc]

end Cert.Attn

end
-- ==== Proof.Spec.lean ====
module

public import proofs.«01_k».proof.Proof.Window

@[expose] public section

/-! The attention both programs compute, on the extended reals: 2048 tokens, 16 heads of 64 lanes. -/

noncomputable section

namespace Cert.Attn

open Idealize.ShloMosaic

/-- A linear layer without bias: row `r` of the weight against token `s`. -/
def proj (x : Fin 2048 → Fin 1024 → EReal) (w : Fin 1024 → Fin 1024 → EReal) (s : Fin 2048) (r : Fin 1024) : EReal :=
  ∑ e, x s e * w r e

/-- Lane `d` of the head that column `c` belongs to. -/
def lane (c : Fin 1024) (d : Fin 64) : Fin 1024 := ⟨c.val / 64 * 64 + d.val, by omega⟩

/-- The score of key `k` for query `q` in the head of column `c`. -/
def score (x : Fin 2048 → Fin 1024 → EReal) (wq wk : Fin 1024 → Fin 1024 → EReal) (c : Fin 1024) (q k : Fin 2048) : EReal :=
  ∑ d, proj x wq q (lane c d) * ((1 / 8 : ℝ) : EReal) * proj x wk k (lane c d)

/-- The score, `⊥` outside the band of 256 keys to either side. -/
def seen (x : Fin 2048 → Fin 1024 → EReal) (wq wk : Fin 1024 → Fin 1024 → EReal) (c : Fin 1024) (q k : Fin 2048) : EReal :=
  if Near q.val k.val then score x wq wk c q k else ⊥

/-- Column `c` of the attention of query `q`. -/
def context (x : Fin 2048 → Fin 1024 → EReal) (wq wk wv : Fin 1024 → Fin 1024 → EReal) (q : Fin 2048) (c : Fin 1024) : EReal :=
  mean (seen x wq wk c q) fun k => proj x wv k c

/-- The layer's result: the attention through the output weight. -/
def attention (x : Fin 2048 → Fin 1024 → EReal) (wq wk wv wo : Fin 1024 → Fin 1024 → EReal) (q : Fin 2048) (o : Fin 1024) :
    EReal := ∑ c, context x wq wk wv q c * wo o c

/-- An extended real that is a real number. -/
def IsReal (e : EReal) : Prop := ∃ r : ℝ, e = r

/-- A finite sum of reals is a real. -/
theorem IsReal.sum {ι : Type} [Fintype ι] (f : ι → EReal) (h : ∀ k, IsReal (f k)) : IsReal (∑ k, f k) := by
  choose a ha using h
  exact ⟨∑ k, a k, by simp only [ha]; exact sum_coe _ a⟩

/-- A product of two reals is a real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Tokens and weights that are real project to reals. -/
theorem proj_real {x : Fin 2048 → Fin 1024 → EReal} {w : Fin 1024 → Fin 1024 → EReal} (hx : ∀ s e, IsReal (x s e))
    (hw : ∀ r e, IsReal (w r e)) (s : Fin 2048) (r : Fin 1024) : IsReal (proj x w s r) :=
  IsReal.sum _ fun e => (hx s e).mul (hw r e)

/-- Real tokens and real query and key weights give real scores. -/
theorem score_real {x : Fin 2048 → Fin 1024 → EReal} {wq wk : Fin 1024 → Fin 1024 → EReal} (hx : ∀ s e, IsReal (x s e))
    (hq : ∀ r e, IsReal (wq r e)) (hk : ∀ r e, IsReal (wk r e)) (c : Fin 1024) (q k : Fin 2048) : IsReal (score x wq wk c q k) :=
  IsReal.sum _ fun d => ((proj_real hx hq q _).mul ⟨_, rfl⟩).mul (proj_real hx hk k _)

/-- A window of 768 keys that holds the band of query `q` gives the attention of `q`. -/
theorem context_window {x : Fin 2048 → Fin 1024 → EReal} {wq wk : Fin 1024 → Fin 1024 → EReal} (wv : Fin 1024 → Fin 1024 → EReal)
    (hx : ∀ s e, IsReal (x s e)) (hq : ∀ r e, IsReal (wq r e)) (hk : ∀ r e, IsReal (wk r e)) (c : Fin 1024) (q : Fin 2048)
    (g : Fin 768 → Fin 2048) (ks : ℕ) (hg : ∀ j, (g j).val = ks + j.val)
    (hlo : ks ≤ q.val - 256) (hhi : min 2048 (q.val + 257) ≤ ks + 768) :
    Ideal.div (∑ j, weight (fun j => seen x wq wk c q (g j)) j * proj x wv (g j) c)
        (∑ j, weight (fun j => seen x wq wk c q (g j)) j)
      = context x wq wk wv q c := by
  have hs : ∀ k, seen x wq wk c q k ≠ ⊥ → Near q.val k.val := fun k h => by
    by_contra hn
    exact h (by simp [seen, hn])
  refine window_mean g (fun a b e => Fin.ext ?_) _ (fun k => proj x wv k c) (fun k => ?_) q ?_ fun k h => ?_
  · have := congrArg Fin.val e
    simp only [hg] at this
    omega
  · unfold seen
    obtain ⟨r, hr⟩ := score_real hx hq hk c q k
    split
    · rw [hr]; exact EReal.coe_ne_top r
    · exact bot_ne_top
  · unfold seen
    obtain ⟨r, hr⟩ := score_real hx hq hk c q q
    rw [if_pos (by unfold Near; omega), hr]
    exact EReal.coe_ne_bot r
  · have hb := hs k h
    unfold Near at hb
    have := k.isLt
    exact ⟨⟨k.val - ks, by omega⟩, Fin.ext (by rw [hg]; show ks + (k.val - ks) = k.val; omega)⟩

end Cert.Attn

end
-- ==== Proof.Pre.lean ====
module

public import proofs.«01_k».proof.Defs
public import proofs.«01_k».proof.Proof.Spec
public import Idealize.ShloMosaic.Lib.ReduceAll

@[expose] public section

/-! What the precondition says of the arrays. -/

set_option maxRecDepth 16384

noncomputable section

namespace Cert.Pre_plain_inputs.Hand

open Idealize.ShloMosaic Cert.Attn Cert.Pre_plain_inputs Cert.Pre_plain_inputs.Facts

instance : Subsingleton S_.Idx := ⟨fun a b => funext fun k => k.elim0⟩

/-- A number that compares equal to the word of zero is zero. -/
theorem zero_of_oeq (x : EReal) (h : Ideal.cmp .oeq x (Ideal.ofBits .f32 0x00000000#32) = 1#1) : x = 0 := by
  rw [show Ideal.ofBits .f32 0x00000000#32 = (0 : EReal) by simp [Ideal.ofBits, Ideal.ieee]] at h
  by_contra hx
  simp [Ideal.cmp, hx] at h

/-- A number whose absolute value compares less than the word of infinity is a real. -/
theorem real_of_olt (x : EReal) (h : Ideal.cmp .olt (max x (-x)) (Ideal.ofBits .f32 0x7F800000#32) = 1#1) : IsReal x := by
  rw [show Ideal.ofBits .f32 0x7F800000#32 = (⊤ : EReal) by simp [Ideal.ofBits, Ideal.ieee]] at h
  induction x with
  | bot => simp [Ideal.cmp] at h
  | top => simp [Ideal.cmp] at h
  | coe r => exact ⟨r, rfl⟩

/-- The arrays of a launch that satisfies the precondition. -/
structure Plain (a0 : FVec Ideal S1x2048x1024 .f32) (a1 : FVec Ideal S1x1x1x2048 .f32) (a2 : FVec Ideal S1024x1024 .f32) (a3 : FVec Ideal S1024 .f32)
    (a4 : FVec Ideal S1024x1024 .f32) (a5 a7 a9 : FVec Ideal S1024 .f32) : Prop where
  r0 : ∀ i, IsReal (a0 i)
  z1 : ∀ i, a1 i = (0 : EReal)
  r2 : ∀ i, IsReal (a2 i)
  z3 : ∀ i, a3 i = (0 : EReal)
  r4 : ∀ i, IsReal (a4 i)
  z5 : ∀ i, a5 i = (0 : EReal)
  z7 : ∀ i, a7 i = (0 : EReal)
  z9 : ∀ i, a9 i = (0 : EReal)

/-- The precondition: the mask and the biases are zero, and the tokens and the query and key weights are real. -/
theorem plain [Cert.Pre_plain_inputs.Facts] (a0 : FVec Ideal S1x2048x1024 .f32) (a1 : FVec Ideal S1x1x1x2048 .f32) (a2 : FVec Ideal S1024x1024 .f32) (a3 : FVec Ideal S1024 .f32)
    (a4 : FVec Ideal S1024x1024 .f32) (a5 : FVec Ideal S1024 .f32) (a6 : FVec Ideal S1024x1024 .f32) (a7 : FVec Ideal S1024 .f32)
    (a8 : FVec Ideal S1024x1024 .f32) (a9 : FVec Ideal S1024 .f32) (i : S_.Idx)
    (h : fn (F := Ideal) a0 a1 a2 a3 a4 a5 a6 a7 a8 a9 i = 1#1) : Plain a0 a1 a2 a3 a4 a5 a7 a9 := by
  unfold fn fn_part1 fn_part2 at h
  obtain ⟨h, h4⟩ := IntOp.andi_eq_one.1 h
  obtain ⟨h, h2⟩ := IntOp.andi_eq_one.1 h
  obtain ⟨h, h0⟩ := IntOp.andi_eq_one.1 h
  obtain ⟨h, h9⟩ := IntOp.andi_eq_one.1 h
  obtain ⟨h, h7⟩ := IntOp.andi_eq_one.1 h
  obtain ⟨h, h5⟩ := IntOp.andi_eq_one.1 h
  obtain ⟨h1, h3⟩ := IntOp.andi_eq_one.1 h
  exact ⟨fun j => real_of_olt _ (Host.reduce_andi_all _ _ _ _ i h0 j), fun j => zero_of_oeq _ (Host.reduce_andi_all _ _ _ _ i h1 j),
    fun j => real_of_olt _ (Host.reduce_andi_all _ _ _ _ i h2 j), fun j => zero_of_oeq _ (Host.reduce_andi_all _ _ _ _ i h3 j),
    fun j => real_of_olt _ (Host.reduce_andi_all _ _ _ _ i h4 j), fun j => zero_of_oeq _ (Host.reduce_andi_all _ _ _ _ i h5 j),
    fun j => zero_of_oeq _ (Host.reduce_andi_all _ _ _ _ i h7 j), fun j => zero_of_oeq _ (Host.reduce_andi_all _ _ _ _ i h9 j)⟩

end Cert.Pre_plain_inputs.Hand

end
-- ==== Proof.KPay.lean ====
module

public import proofs.«01_k».proof.Proof.Out
public import proofs.«01_k».proof.Proof.Spec
public import Idealize.ShloMosaic.Lib.Pointwise

@[expose] public section

/-! The kernel's computations at an index, on the extended reals. -/

set_option maxRecDepth 16384

noncomputable section

namespace Cert.KernelIdeal.Hand

open Idealize.ShloMosaic Idealize.SL Idealize.SL.Sem Idealize.ShloMosaic.Tactic Idealize.ShloMosaic.TcCoe
open Cert.KernelIdeal.Gen Cert.Attn

/-- The f32 word of minus infinity is `⊥`. -/
theorem ofBits_neg_inf : Ideal.ofBits .f32 0xFF800000#32 = ⊥ := by
  simp [Ideal.ofBits, Ideal.ieee]

/-- The f32 word of 64 is the real 64. -/
theorem ofBits_64 : Ideal.ofBits .f32 0x42800000#32 = ((64 : ℝ) : EReal) := by
  simp [Ideal.ofBits, Ideal.ieee, -EReal.coe_mul]; norm_num

/-- The square root of the word of 64 is 8. -/
theorem sqrt_64 : Ideal.sqrt (Ideal.ofBits .f32 0x42800000#32) = ((8 : ℝ) : EReal) := by
  rw [ofBits_64]
  show (if (64 : ℝ) < 0 then (⊥ : EReal) else ((Real.sqrt 64 : ℝ) : EReal)) = _
  rw [if_neg (by norm_num), show (64 : ℝ) = 8 ^ 2 by norm_num, Real.sqrt_sq (by norm_num)]

/-- The named constant of the mask is `⊥`. -/
theorem named_mask : (Named.named (F := Ideal) κ "mask" (φ := .f32) 0xCE6E6B28#32) = (⊥ : EReal) := rfl

/-- The scaled query projection at an index. -/
theorem pay12_at (x w : Vec Ideal S1024x1024 .f32) (r j : Fin 1024) :
    k0_pay12 x w (ix2 r j) = (∑ e, x (ix2 r e) * w (ix2 j e)) * ((1 / 8 : ℝ) : EReal) := by
  pointwise [k0_pay12, k0_pay10]
  congr 1
  show Ideal.div 1 (Ideal.sqrt (Ideal.ofBits .f32 0x42800000#32)) = _
  rw [sqrt_64, Ideal.div_coe (by norm_num), one_mul]

/-- The key projection at an index. -/
theorem pay11_at (x w : Vec Ideal S1024x1024 .f32) (r j : Fin 1024) :
    k0_pay11 x w (ix2 r j) = ∑ e, x (ix2 j e) * w (ix2 r e) := by
  pointwise [k0_pay11, k0_pay10]
  exact Finset.sum_congr rfl fun e _ => mul_comm _ _

/-- The value projection at an index. -/
theorem pay13_at (x w : Vec Ideal S1024x1024 .f32) (r j : Fin 1024) :
    k0_pay13 x w (ix2 r j) = ∑ e, x (ix2 j e) * w (ix2 r e) := by
  pointwise [k0_pay13, k0_pay10]
  exact Finset.sum_congr rfl fun e _ => mul_comm _ _

/-- The output projection at an index. -/
theorem pay9_at (x : Vec Ideal S256x1024 .f32) (w : Vec Ideal S1024x1024 .f32) (r : Fin 256) (j : Fin 1024) :
    k0_pay9 x w (ix2 r j) = ∑ e, x (ix2 r e) * w (ix2 j e) := by
  pointwise [k0_pay9]

/-- One head of one block at an index: the weighted sum over the window divided by the last row's. -/
theorem pay47_at (M : IVec S256x768 1) (q : FVec Ideal S256x64 .bf16) (k : Vec Ideal S64x768 .bf16) (v : Vec Ideal S72x768 .bf16)
    (r : Fin 256) (l : Fin 64) (f : Fin 768 → EReal)
    (hf : ∀ j, f j = if M (ix2 r j) = 1#1 then ∑ d, q (ix2 r d) * k (ix2 d j) else ⊥) :
    k0_pay47 (F := Ideal) M q k v (ix2 r l)
      = Ideal.div (∑ j, weight f j * v (ix2 ⟨l.val, by omega⟩ j)) (∑ j, weight f j * v (ix2 64 j)) := by
  have hg : (fun j => Scalar.select (M (ix2 r j)) (∑ d, q (ix2 r d) * k (ix2 d j)) (⊥ : EReal)) = f := funext fun j => by
    rw [hf]; rfl
  pointwise [k0_pay47]
  have hj : ∀ j, Scalar.select (M (ix2 r j)) (∑ d, q (ix2 r d) * k (ix2 d j)) (Named.named (F := Ideal) κ "mask" (φ := .f32) 0xCE6E6B28#32)
      = f j := fun j => congrFun hg j
  simp only [hj, ofBits_neg_inf]
  rfl

end Cert.KernelIdeal.Hand

end
-- ==== Proof.KMask.lean ====
module

public import proofs.«01_k».proof.Proof.KPay

@[expose] public section

/-! The band mask of one block, and where the block's window starts. -/

set_option maxRecDepth 16384

noncomputable section

namespace Cert.KernelIdeal.Hand

open Idealize.ShloMosaic Idealize.SL Idealize.SL.Sem Idealize.ShloMosaic.Tactic Idealize.ShloMosaic.TcCoe
open Cert.KernelIdeal.Gen Cert.Attn

/-- The difference of two small words is the difference of the numbers. -/
theorem sub_toInt (r : Fin 256) (j : Fin 768) : (BitVec.ofNat 32 j.val - BitVec.ofNat 32 r.val).toInt = (j.val : ℤ) - r.val := by
  have := r.isLt; have := j.isLt
  rw [BitVec.toInt_sub, BitVec.toInt_ofNat', BitVec.toInt_ofNat', Int.bmod_def, Int.bmod_def, Int.bmod_def]
  omega

/-- Two signed comparisons of a difference, both true. -/
theorem between (r : Fin 256) (j : Fin 768) (lo hi : BitVec 32) :
    IntOp.andi (IntOp.cmpi .sge (IntOp.subi (BitVec.ofNat 32 j.val) (BitVec.ofNat 32 r.val)) lo)
        (IntOp.cmpi .sle (IntOp.subi (BitVec.ofNat 32 j.val) (BitVec.ofNat 32 r.val)) hi) = 1#1
      ↔ lo.toInt ≤ (j.val : ℤ) - r.val ∧ (j.val : ℤ) - r.val ≤ hi.toInt := by
  rw [← sub_toInt]
  generalize hx : BitVec.ofNat 32 j.val - BitVec.ofNat 32 r.val = w
  have hs : IntOp.subi (BitVec.ofNat 32 j.val) (BitVec.ofNat 32 r.val) = w := hx
  rw [hs]
  simp only [IntOp.andi, IntOp.cmpi, BitVec.sle]
  by_cases h1 : lo.toInt ≤ w.toInt <;> by_cases h2 : w.toInt ≤ hi.toInt <;> simp [h1, h2]

/-- The first key of the window of point `t`. -/
def start (t : ℕ) : ℕ := min 1280 (256 * (t - 2) - 256)

/-- The lower bound the mask compares with, at every attending point. -/
theorem lo_eq : ∀ t : Fin grid0.N, 2 ≤ t.val →
    (Scalar.subi (4294967040#32)
      (Scalar.subi (Scalar.minsi (1280#32) (Scalar.maxsi (0#32) (Scalar.subi (Scalar.muli (Scalar.subi
        (BitVec.ofNat 32 (grid0.coords t 0).val) 2#32) 256#32) 256#32)))
        (Scalar.muli (Scalar.subi (BitVec.ofNat 32 (grid0.coords t 0).val) 2#32) 256#32))).toInt
      = -256 - ((start t.val : ℤ) - 256 * (t.val - 2 : ℕ)) := by decide +kernel

/-- The upper bound the mask compares with, at every attending point. -/
theorem hi_eq : ∀ t : Fin grid0.N, 2 ≤ t.val →
    (Scalar.subi (256#32)
      (Scalar.subi (Scalar.minsi (1280#32) (Scalar.maxsi (0#32) (Scalar.subi (Scalar.muli (Scalar.subi
        (BitVec.ofNat 32 (grid0.coords t 0).val) 2#32) 256#32) 256#32)))
        (Scalar.muli (Scalar.subi (BitVec.ofNat 32 (grid0.coords t 0).val) 2#32) 256#32))).toInt
      = 256 - ((start t.val : ℤ) - 256 * (t.val - 2 : ℕ)) := by decide +kernel

/-- The mask of point `t` holds at the pairs of a query and a key at most 256 apart. -/
theorem mask_iff (t : Fin grid0.N) (ht : 2 ≤ t.val) (r : Fin 256) (j : Fin 768) :
    k0_pay44 (BitVec.ofNat 32 (grid0.coords t 0).val) (ix2 r j) = 1#1
      ↔ Near (256 * (t.val - 2) + r.val) (start t.val + j.val) := by
  pointwise [k0_pay44]
  refine (between r j _ _).trans ?_
  rw [lo_eq t ht, hi_eq t ht]
  unfold Near
  omega

/-- The first query row an attending point reads. -/
theorem off35_eq : ∀ t : Fin grid0.N, 2 ≤ t.val → k0_off35 (grid0.coords t) 0 = 256 * (t.val - 2) := by decide +kernel

/-- The first key column an attending point reads. -/
theorem off36_eq : ∀ t : Fin grid0.N, 2 ≤ t.val → k0_off36 (grid0.coords t) 1 = start t.val := by decide +kernel

end Cert.KernelIdeal.Hand

end
-- ==== Proof.KBlocks.lean ====
module

public import proofs.«01_k».proof.Proof.KMask
public import Idealize.ShloMosaic.Lib.Claim

@[expose] public section

/-! The blocks the kernel's points read, and the three scratch arrays, on the arguments. -/

set_option maxRecDepth 16384

noncomputable section

namespace Cert.KernelIdeal.Hand

open Idealize.ShloMosaic Idealize.SL Idealize.SL.Sem Idealize.ShloMosaic.Tactic Idealize.ShloMosaic.TcCoe
open Cert.KernelIdeal.Gen Cert.Attn

variable (m : (ℓ : Loc nD τ sig) → Buf (Elt Ideal) ℓ) (c : Dev nD)

/-- The tokens. -/
def tok (s : Fin 2048) (e : Fin 1024) : EReal := m ((c.tc : Thread nD τ).loc main_arg0) (ix3 (0 : Fin 1) s e)

/-- The query weight. -/
def wQ (r e : Fin 1024) : EReal := m ((c.tc : Thread nD τ).loc main_arg2) (ix2 r e)

/-- The key weight. -/
def wK (r e : Fin 1024) : EReal := m ((c.tc : Thread nD τ).loc main_arg4) (ix2 r e)

/-- The value weight. -/
def wV (r e : Fin 1024) : EReal := m ((c.tc : Thread nD τ).loc main_arg6) (ix2 r e)

/-- The output weight. -/
def wO (r e : Fin 1024) : EReal := m ((c.tc : Thread nD τ).loc main_arg8) (ix2 r e)

/-- The block of tokens that a point stages. -/
theorem idx0 : ∀ t : Fin cfg0.N, win0_0.index t = ![min t.val 1, 0] :=
  (by decide +kernel : ∀ t : Fin grid0.N, win0_0.index t = ![min t.val 1, 0])

/-- Every point stages the whole query weight. -/
theorem idx1 : ∀ t : Fin cfg0.N, win0_1.index t = ![0, 0] := (by decide +kernel : ∀ t : Fin grid0.N, win0_1.index t = ![0, 0])
/-- Every point stages the whole key weight. -/
theorem idx2 : ∀ t : Fin cfg0.N, win0_2.index t = ![0, 0] := (by decide +kernel : ∀ t : Fin grid0.N, win0_2.index t = ![0, 0])
/-- Every point stages the whole value weight. -/
theorem idx3 : ∀ t : Fin cfg0.N, win0_3.index t = ![0, 0] := (by decide +kernel : ∀ t : Fin grid0.N, win0_3.index t = ![0, 0])
/-- Every point stages the whole output weight. -/
theorem idx4 : ∀ t : Fin cfg0.N, win0_4.index t = ![0, 0] := (by decide +kernel : ∀ t : Fin grid0.N, win0_4.index t = ![0, 0])

/-- The block of tokens at the point that holds token `s`. -/
theorem block0 (s : Fin 2048) (e : Fin 1024) :
    iblk m c 0 (pt (s.val / 1024)) (ix2 (⟨s.val % 1024, Nat.mod_lt _ (by decide)⟩ : Fin 1024) e) = tok m c s e := by
  unfold tok
  have hs := s.isLt
  have hp : (pt (s.val / 1024)).val = s.val / 1024 := by show s.val / 1024 % 10 = _; omega
  show V m c main_v0 ((win0_0.blk (pt (s.val / 1024))).view.emb (ix2 (⟨s.val % 1024, Nat.mod_lt _ (by decide)⟩ : Fin 1024) e)) = _
  have he : (win0_0.blk (pt (s.val / 1024))).view.emb (ix2 (⟨s.val % 1024, Nat.mod_lt _ (by decide)⟩ : Fin 1024) e) = ix2 s e := by
    blk_ext [idx0, hp]
  rw [he]
  unfold V
  unfold V0
  simp only [hostOps0, List.flatten_cons, List.flatten_nil, List.append_nil]
  after_results
  pointwise

/-- The staged query weight is the argument. -/
theorem block1 (t : Fin cfg0.N) (r e : Fin 1024) : iblk m c 1 t (ix2 r e) = wQ m c r e := by
  unfold wQ
  blk_ext [iblk, V, idx1 t]
/-- The staged key weight is the argument. -/
theorem block2 (t : Fin cfg0.N) (r e : Fin 1024) : iblk m c 2 t (ix2 r e) = wK m c r e := by
  unfold wK
  blk_ext [iblk, V, idx2 t]
/-- The staged value weight is the argument. -/
theorem block3 (t : Fin cfg0.N) (r e : Fin 1024) : iblk m c 3 t (ix2 r e) = wV m c r e := by
  unfold wV
  blk_ext [iblk, V, idx3 t]
/-- The staged output weight is the argument. -/
theorem block4 (t : Fin cfg0.N) (r e : Fin 1024) : iblk m c 4 t (ix2 r e) = wO m c r e := by
  unfold wO
  blk_ext [iblk, V, idx4 t]

/-- The keys at an index. -/
theorem keys_at (r : Fin 1024) (s : Fin 2048) : keys m c (ix2 r s) = proj (tok m c) (wK m c) s r := by
  show k0_pay11 (iblk m c 0 (pt (s.val / 1024))) (iblk m c 2 (pt (s.val / 1024))) (ix2 r ⟨s.val % 1024, Nat.mod_lt _ (by decide)⟩) = _
  refine (pay11_at _ _ _ _).trans (Finset.sum_congr rfl fun e _ => ?_)
  exact congrArg₂ (fun a b : EReal => a * b) (block0 m c s e) (block2 m c _ r e)

/-- The queries at an index. -/
theorem queries_at (s : Fin 2048) (r : Fin 1024) :
    queries m c (ix2 s r) = proj (tok m c) (wQ m c) s r * ((1 / 8 : ℝ) : EReal) := by
  show k0_pay12 (iblk m c 0 (pt (s.val / 1024))) (iblk m c 1 (pt (s.val / 1024))) (ix2 ⟨s.val % 1024, Nat.mod_lt _ (by decide)⟩ r) = _
  refine (pay12_at _ _ _ _).trans (congrArg (fun a : EReal => a * ((1 / 8 : ℝ) : EReal)) (Finset.sum_congr rfl fun e _ => ?_))
  exact congrArg₂ (fun a b : EReal => a * b) (block0 m c s e) (block1 m c _ r e)

/-- The values at an index of a head's rows. -/
theorem values_at (r : Fin 1152) (s : Fin 2048) (hr : r.val % 72 < 64) :
    values m c (ix2 r s) = proj (tok m c) (wV m c) s ⟨(64 * (r.val / 72) + r.val % 72) % 1024, Nat.mod_lt _ (by decide)⟩ := by
  show valueEntry (k0_pay13 (iblk m c 0 (pt (s.val / 1024))) (iblk m c 3 (pt (s.val / 1024)))) r.val (s.val % 1024) = _
  unfold valueEntry
  rw [if_pos hr]
  refine (pay13_at _ _ _ _).trans (Finset.sum_congr rfl fun e _ => ?_)
  refine congrArg₂ (fun a b : EReal => a * b) (Eq.trans ?_ (block0 m c s e)) (block3 m c _ _ e)
  congr 2
  exact Fin.ext (Nat.mod_mod _ _)

/-- The values at an index of a row of ones. -/
theorem values_one (r : Fin 1152) (s : Fin 2048) (hr : ¬ r.val % 72 < 64) : values m c (ix2 r s) = (1 : EReal) := by
  show valueEntry (k0_pay13 (iblk m c 0 (pt (s.val / 1024))) (iblk m c 3 (pt (s.val / 1024)))) r.val (s.val % 1024) = _
  unfold valueEntry
  rw [if_neg hr]
  exact Ideal.ofBits_one_bf16

end Cert.KernelIdeal.Hand

end
-- ==== Proof.KValue.lean ====
module

public import proofs.«01_k».proof.Proof.KBlocks

@[expose] public section

/-! The kernel's result on the extended reals: the attention of the tokens. -/

set_option maxRecDepth 16384

noncomputable section

namespace Cert.KernelIdeal.Hand

open Idealize.ShloMosaic Idealize.SL Idealize.SL.Sem Idealize.ShloMosaic.Tactic Idealize.ShloMosaic.TcCoe
open Cert.KernelIdeal.Gen Cert.Attn

variable (m : (ℓ : Loc nD τ sig) → Buf (Elt Ideal) ℓ) (c : Dev nD)

/-- The key that lane `j` of the window of point `t` is. -/
def windowKey (t : ℕ) (j : Fin 768) : Fin 2048 := ⟨start t + j.val, by have := j.isLt; unfold start; omega⟩

/-- One column of one query at an attending point is the attention of that query. -/
theorem ctx_at (hx : ∀ s e, IsReal (tok m c s e)) (hq : ∀ r e, IsReal (wQ m c r e)) (hk : ∀ r e, IsReal (wK m c r e))
    (t : Fin grid0.N) (ht : 2 ≤ t.val) (r : Fin 256) (e : Fin 1024) (q : Fin 2048) (hqr : q.val = 256 * (t.val - 2) + r.val) :
    attendCtx (grid0.coords t) (keys m c) (values m c) (queries m c) (ix2 r e)
      = context (tok m c) (wQ m c) (wK m c) (wV m c) q e := by
  have hqlt := q.isLt
  have he := e.isLt
  have hr := r.isLt
  show k0_pay47 (k0_pay44 (BitVec.ofNat 32 (grid0.coords t 0).val))
      (qTile (queries m c) (e.val / 64) (k0_off35 (grid0.coords t) 0))
      (kTile (keys m c) (e.val / 64) (k0_off36 (grid0.coords t) 1))
      (vTile (values m c) (e.val / 64) (k0_off36 (grid0.coords t) 1)) (ix2 r ⟨e.val % 64, Nat.mod_lt _ (by decide)⟩) = _
  rw [off35_eq t ht, off36_eq t ht]
  have hkey : ∀ j : Fin 768, (⟨(start t.val + j.val) % 2048, Nat.mod_lt _ (by decide)⟩ : Fin 2048) = windowKey t.val j := fun j =>
    Fin.ext (Nat.mod_eq_of_lt (windowKey t.val j).isLt)
  have hqe : (⟨(256 * (t.val - 2) + r.val) % 2048, Nat.mod_lt _ (by decide)⟩ : Fin 2048) = q := Fin.ext (by
    show (256 * (t.val - 2) + r.val) % 2048 = q.val; omega)
  have hl : ∀ d : Fin 64, (⟨(64 * (e.val / 64) + d.val) % 1024, Nat.mod_lt _ (by decide)⟩ : Fin 1024) = lane e d := fun d => Fin.ext (by
    show (64 * (e.val / 64) + d.val) % 1024 = e.val / 64 * 64 + d.val
    have := d.isLt; omega)
  have hf : ∀ j, seen (tok m c) (wQ m c) (wK m c) e q (windowKey t.val j)
      = if k0_pay44 (BitVec.ofNat 32 (grid0.coords t 0).val) (ix2 r j) = 1#1 then
          ∑ d, qTile (queries m c) (e.val / 64) (256 * (t.val - 2)) (ix2 r d)
            * kTile (keys m c) (e.val / 64) (start t.val) (ix2 d j)
        else (⊥ : EReal) := fun j => by
    unfold seen
    refine if_congr ((by rw [hqr]; exact Iff.rfl : _ ↔ _).trans (mask_iff t ht r j).symm) (Finset.sum_congr rfl fun d _ => ?_) rfl
    refine congrArg₂ (fun a b : EReal => a * b) (Eq.symm ?_) (Eq.symm ?_)
    · show queries m c (ix2 ⟨(256 * (t.val - 2) + r.val) % 2048, _⟩ ⟨(64 * (e.val / 64) + d.val) % 1024, _⟩) = _
      rw [hqe, hl d]
      exact queries_at m c q (lane e d)
    · show keys m c (ix2 ⟨(64 * (e.val / 64) + d.val) % 1024, _⟩ ⟨(start t.val + j.val) % 2048, _⟩) = _
      rw [hl d, hkey j]
      exact keys_at m c (lane e d) (windowKey t.val j)
  refine (pay47_at _ _ _ _ r _ (fun j => seen (tok m c) (wQ m c) (wK m c) e q (windowKey t.val j)) hf).trans ?_
  refine Eq.trans ?_ (context_window (wV m c) hx hq hk e q (windowKey t.val) (start t.val) (fun _ => rfl) ?_ ?_)
  · refine congrArg₂ Ideal.div (Finset.sum_congr rfl fun j _ => congrArg (fun a : EReal => weight _ j * a) ?_)
      (Finset.sum_congr rfl fun j _ => ?_)
    · show values m c (ix2 ⟨(72 * (e.val / 64) + e.val % 64) % 1152, _⟩ ⟨(start t.val + j.val) % 2048, _⟩) = _
      rw [hkey j]
      have hm : (72 * (e.val / 64) + e.val % 64) % 1152 = 72 * (e.val / 64) + e.val % 64 := by omega
      refine (values_at m c _ _ ?_).trans (congrArg (proj (tok m c) (wV m c) (windowKey t.val j)) (Fin.ext ?_))
      · show (72 * (e.val / 64) + e.val % 64) % 1152 % 72 < 64; omega
      · show (64 * ((72 * (e.val / 64) + e.val % 64) % 1152 / 72) + (72 * (e.val / 64) + e.val % 64) % 1152 % 72) % 1024 = e.val
        omega
    · refine Eq.trans (congrArg (fun a : EReal => weight _ j * a) ?_) (mul_one _)
      show values m c (ix2 ⟨(72 * (e.val / 64) + 64) % 1152, _⟩ ⟨(start t.val + j.val) % 2048, _⟩) = _
      refine values_one m c _ _ ?_
      show ¬ (72 * (e.val / 64) + 64) % 1152 % 72 < 64
      omega
  · unfold start; omega
  · unfold start; omega

/-- The kernel's result at an index is the attention layer. -/
theorem whole_at (hx : ∀ s e, IsReal (tok m c s e)) (hq : ∀ r e, IsReal (wQ m c r e)) (hk : ∀ r e, IsReal (wK m c r e))
    (q : Fin 2048) (o : Fin 1024) :
    whole m c (ix2 q o) = attention (tok m c) (wQ m c) (wK m c) (wV m c) (wO m c) q o := by
  have hqlt := q.isLt
  have hp : (pt (q.val / 256 + 2)).val = q.val / 256 + 2 := by show (q.val / 256 + 2) % 10 = _; omega
  show k0_pay9 (attendCtx (grid0.coords (pt (q.val / 256 + 2))) (keys m c) (values m c) (queries m c)) (iblk m c 4 (pt (q.val / 256 + 2)))
    (ix2 ⟨q.val % 256, Nat.mod_lt _ (by decide)⟩ o) = _
  refine (pay9_at _ _ _ _).trans (Finset.sum_congr rfl fun e _ => ?_)
  refine congrArg₂ (fun a b : EReal => a * b) (ctx_at m c hx hq hk _ ?_ _ e q ?_) (block4 m c _ o e)
  · rw [hp]; omega
  · rw [hp]; show q.val = 256 * (q.val / 256 + 2 - 2) + q.val % 256; omega

/-- The kernel's result buffer at an index is the attention layer. -/
theorem result_at (hx : ∀ s e, IsReal (tok m c s e)) (hq : ∀ r e, IsReal (wQ m c r e)) (hk : ∀ r e, IsReal (wK m c r e))
    (b : Fin 1) (q : Fin 2048) (o : Fin 1024) :
    broadcastInDim S1x2048x1024 ![1, 2] bcast_S2048x1024_S1x2048x1024_1_2 (whole m c) (ix3 b q o)
      = attention (tok m c) (wQ m c) (wK m c) (wV m c) (wO m c) q o := by
  refine Eq.trans ?_ (whole_at m c hx hq hk q o)
  pointwise

end Cert.KernelIdeal.Hand

end
-- ==== Proof.RBand.lean ====
module

public import proofs.«01_k».proof.Proof.RFrame
public import proofs.«01_k».proof.Proof.Spec
public import Idealize.ShloMosaic.Lib.Pointwise

@[expose] public section

/-! The reference's constants and its band, on the extended reals. -/

set_option maxRecDepth 16384

noncomputable section

namespace Cert.ReferenceIdeal.Hand

open Idealize.ShloMosaic Idealize.SL Idealize.SL.Sem Idealize.ShloMosaic.Tactic Idealize.ShloMosaic.TcCoe
open Cert.ReferenceIdeal.Value Cert.Attn

/-- The f32 word of minus infinity is `⊥`. -/
theorem ofBits_neg_inf : Ideal.ofBits .f32 0xFF800000#32 = ⊥ := by
  simp [Ideal.ofBits, Ideal.ieee]

/-- The scalar constant minus infinity is `⊥`. -/
theorem constant_neg_inf : (id (constant (F := Ideal) S_ .f32 0xFF800000#32) ix0) = (⊥ : EReal) := ofBits_neg_inf

/-- The f32 word of 64 is the real 64. -/
theorem ofBits_64 : Ideal.ofBits .f32 0x42800000#32 = ((64 : ℝ) : EReal) := by
  simp [Ideal.ofBits, Ideal.ieee, -EReal.coe_mul]; norm_num

/-- Dividing by the square root of the word of 64 is multiplying by an eighth. -/
theorem div_sqrt_64 (x : EReal) : Ideal.div x (Ideal.sqrt (Ideal.ofBits .f32 0x42800000#32)) = x * ((1 / 8 : ℝ) : EReal) := by
  rw [ofBits_64]
  have h8 : Ideal.sqrt ((64 : ℝ) : EReal) = ((8 : ℝ) : EReal) := by
    show (if (64 : ℝ) < 0 then (⊥ : EReal) else ((Real.sqrt 64 : ℝ) : EReal)) = _
    rw [if_neg (by norm_num), show (64 : ℝ) = 8 ^ 2 by norm_num, Real.sqrt_sq (by norm_num)]
  rw [h8, Ideal.div_coe (by norm_num)]

/-- The absolute value of a word that is not far below zero is the number's. -/
theorem absi_toInt (w : BitVec 32) (h : -2048 ≤ w.toInt) : (IntOp.absi w).toInt = |w.toInt| := by
  unfold IntOp.absi
  rw [BitVec.msb_eq_toInt]
  by_cases h0 : w.toInt < 0
  · rw [if_pos (by simpa using h0), BitVec.toInt_neg, abs_of_neg h0, Int.bmod_def]
    have := BitVec.toInt_lt (x := w)
    omega
  · rw [if_neg (by simpa using h0), abs_of_nonneg (by omega)]

/-- The reference's test on the distance of a query and a key is the band. -/
theorem near_word (q k : Fin 2048) :
    IntOp.cmpi .sle (IntOp.absi (IntOp.subi (BitVec.ofNat 32 q.val) (BitVec.ofNat 32 k.val))) 256#32 = 1#1 ↔ Near q.val k.val := by
  have hq := q.isLt
  have hk := k.isLt
  have hs : (BitVec.ofNat 32 q.val - BitVec.ofNat 32 k.val).toInt = (q.val : ℤ) - k.val := by
    rw [BitVec.toInt_sub, BitVec.toInt_ofNat', BitVec.toInt_ofNat', Int.bmod_def, Int.bmod_def, Int.bmod_def]
    omega
  have ha : (IntOp.absi (IntOp.subi (BitVec.ofNat 32 q.val) (BitVec.ofNat 32 k.val))).toInt = |(q.val : ℤ) - k.val| := by
    refine (absi_toInt _ ?_).trans (congrArg abs hs)
    show -2048 ≤ (BitVec.ofNat 32 q.val - BitVec.ofNat 32 k.val).toInt
    omega
  simp only [IntOp.cmpi, BitVec.sle, ha]
  have h256 : (256#32).toInt = 256 := by decide
  rw [h256]
  unfold Near
  by_cases h : |(q.val : ℤ) - k.val| ≤ 256
  · simp [h]; rw [abs_le] at h; omega
  · simp [h]; rw [abs_le] at h; omega

/-- A selection by the reference's test is a selection by the band. -/
theorem near_select (q k : Fin 2048) (a b : EReal) :
    Scalar.select (IntOp.cmpi .sle (IntOp.absi (IntOp.subi (BitVec.ofNat 32 q.val) (BitVec.ofNat 32 k.val))) 256#32) a b
      = if Near q.val k.val then a else b := if_congr (near_word q k) rfl rfl

end Cert.ReferenceIdeal.Hand

end
-- ==== Proof.RStages.lean ====
module

public import proofs.«01_k».proof.Proof.RBand

@[expose] public section

/-! The reference's result cut into stages, each read at an index on the extended reals. -/

set_option maxRecDepth 16384

noncomputable section

namespace Cert.ReferenceIdeal.Hand

open Idealize.ShloMosaic Idealize.SL Idealize.SL.Sem Idealize.ShloMosaic.Tactic Idealize.ShloMosaic.TcCoe
open Cert.ReferenceIdeal Cert.ReferenceIdeal.Gen Cert.ReferenceIdeal.Value Cert.Attn

/-- A linear layer with its bias, split into heads. -/
def layer (x : FVec Ideal S1x2048x1024 .f32) (w : FVec Ideal S1024x1024 .f32) (b : FVec Ideal S1024 .f32) : FVec Ideal S1x2048x16x64 .f32 :=
  shapeCast _ (addf (Host.dotGeneral dot_S1x2048x1024_S1024x1024_S1x2048x1024_2_0_01_1_n_n none x
      (transpose S1024x1024 [1, 0] w transposes_S1024x1024_S1024x1024_1_0))
    (broadcastInDim S1x2048x1024 ![0, 1, 2] bcast_S1x1x1024_S1x2048x1024_0_1_2 (broadcastInDim S1x1x1024 ![2] bcast_S1024_S1x1x1024_2 b)))
    shapeCasts_S1x2048x1024_S1x2048x16x64

/-- The band of the pairs of a query and a key. -/
def band : IVec S2048x2048 1 :=
  cmpi .sle (absi (subi (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 256#32))

/-- The attention mask as one row. -/
def row (a : FVec Ideal S1x1x1x2048 .f32) : FVec Ideal S1x2048 .f32 :=
  shapeCast _ (shapeCast _ a shapeCasts_S1x1x1x2048_S1x1x2048) shapeCasts_S1x1x2048_S1x2048

/-- The scores of every head, minus infinity outside the band. -/
def scores (q k : FVec Ideal S1x2048x16x64 .f32) (a : FVec Ideal S1x1x1x2048 .f32) : FVec Ideal S1x16x2048x2048 .f32 :=
  select (broadcastInDim S1x16x2048x2048 ![0, 1, 2, 3] bcast_S1x1x2048x2048_S1x16x2048x2048_0_1_2_3
      (broadcastInDim S1x1x2048x2048 ![2, 3] bcast_S2048x2048_S1x1x2048x2048_2_3 band))
    (addf (Host.dotGeneral dot_S1x2048x16x64_S1x2048x16x64_S1x16x2048x2048_3_3_1_1_02_02 none
        (Host.divf q (broadcastInDim S1x2048x16x64 ![] bcast_S_S1x2048x16x64 (Host.sqrt (constant S_ .f32 0x42800000#32)))) k)
      (broadcastInDim S1x16x2048x2048 ![0, 1, 2, 3] bcast_S1x1x1x2048_S1x16x2048x2048_0_1_2_3 (broadcastInDim S1x1x1x2048 ![0, 3] bcast_S1x2048_S1x1x1x2048_0_3
        (select (cmpf .une (row a) (broadcastInDim S1x2048 ![] bcast_S_S1x2048 (constant S_ .f32 0x00000000#32)))
          (broadcastInDim S1x2048 ![] bcast_S_S1x2048 (constant S_ .f32 0xC61C4000#32)) (broadcastInDim S1x2048 ![] bcast_S_S1x2048 (constant S_ .f32 0x00000000#32))))))
    (broadcastInDim S1x16x2048x2048 ![] bcast_S_S1x16x2048x2048 (id (constant S_ .f32 0xFF800000#32)))

/-- The greatest score of every row. -/
def top (s : FVec Ideal S1x16x2048x2048 .f32) : FVec Ideal S1x16x2048 .f32 :=
  Host.reduce FloatOps.maximumf s (constant S_ .f32 0xFF800000#32) reducesTo_S1x16x2048x2048_S1x16x2048_d3 h_S_

/-- The exponentials of the scores less a number for every row. -/
def weights (s : FVec Ideal S1x16x2048x2048 .f32) (g : FVec Ideal S1x16x2048 .f32) : FVec Ideal S1x16x2048x2048 .f32 :=
  Host.exp (subf s (broadcastInDim S1x16x2048x2048 ![0, 1, 2, 3] bcast_S1x16x2048x1_S1x16x2048x2048_0_1_2_3 (broadcastInDim S1x16x2048x1 ![0, 1, 2] bcast_S1x16x2048_S1x16x2048x1_0_1_2
    (maximumf (broadcastInDim S1x16x2048 ![] bcast_S_S1x16x2048 (constant S_ .f32 0xFF800000#32)) g))))

/-- The exponentials of the scores less their row's greatest. -/
def soft (s : FVec Ideal S1x16x2048x2048 .f32) : FVec Ideal S1x16x2048x2048 .f32 := weights s (top s)

/-- The weights over their row's sum, zero in the rows of masked queries. -/
def probs (w : FVec Ideal S1x16x2048x2048 .f32) (a : FVec Ideal S1x1x1x2048 .f32) : FVec Ideal S1x16x2048x2048 .f32 :=
  select (broadcastInDim S1x16x2048x2048 ![0, 1, 2, 3] bcast_S1x1x2048x1_S1x16x2048x2048_0_1_2_3 (broadcastInDim S1x1x2048x1 ![0, 2] bcast_S1x2048_S1x1x2048x1_0_2
      (cmpf .olt (row a) (broadcastInDim S1x2048 ![] bcast_S_S1x2048 (constant S_ .f32 0x00000000#32)))))
    (broadcastInDim S1x16x2048x2048 ![] bcast_S_S1x16x2048x2048 (constant S_ .f32 0x00000000#32))
    (Host.divf w (broadcastInDim S1x16x2048x2048 ![0, 1, 2, 3] bcast_S1x16x2048x1_S1x16x2048x2048_0_1_2_3 (broadcastInDim S1x16x2048x1 ![0, 1, 2] bcast_S1x16x2048_S1x16x2048x1_0_1_2
      (Host.reduceAdd w (constant S_ .f32 0x00000000#32) reducesTo_S1x16x2048x2048_S1x16x2048_d3 h_S_))))

/-- The heads' weighted values side by side. -/
def heads (v : FVec Ideal S1x2048x16x64 .f32) (p : FVec Ideal S1x16x2048x2048 .f32) : FVec Ideal S1x2048x1024 .f32 :=
  shapeCast _ (transpose S1x2048x16x64 [0, 3, 1, 2] (Host.dotGeneral dot_S1x2048x16x64_S1x16x2048x2048_S1x16x64x2048_1_3_3_2_02_01 none v p)
    transposes_S1x16x64x2048_S1x2048x16x64_0_3_1_2) shapeCasts_S1x2048x16x64_S1x2048x1024

/-- The output layer. -/
def output (x : FVec Ideal S1x2048x1024 .f32) (w : FVec Ideal S1024x1024 .f32) (b : FVec Ideal S1024 .f32) : FVec Ideal S1x2048x1024 .f32 :=
  addf (Host.dotGeneral dot_S1x2048x1024_S1024x1024_S1x2048x1024_2_0_01_1_n_n none x
      (transpose S1024x1024 [1, 0] w transposes_S1024x1024_S1024x1024_1_0))
    (broadcastInDim S1x2048x1024 ![0, 1, 2] bcast_S1x1x1024_S1x2048x1024_0_1_2 (broadcastInDim S1x1x1024 ![2] bcast_S1024_S1x1x1024_2 b))

/-- The reference's result is the stages after one another. -/
theorem res_eq (m : (ℓ : Loc nD τ sig) → Buf (Elt Ideal) ℓ) (c : Dev nD) :
    res_main_v63 (F := Ideal) m c
      = output (heads (layer (m ((c.tc : Thread nD τ).loc main_arg0)) (m ((c.tc : Thread nD τ).loc main_arg6)) (m ((c.tc : Thread nD τ).loc main_arg7)))
          (probs (soft (scores (layer (m ((c.tc : Thread nD τ).loc main_arg0)) (m ((c.tc : Thread nD τ).loc main_arg2)) (m ((c.tc : Thread nD τ).loc main_arg3)))
            (layer (m ((c.tc : Thread nD τ).loc main_arg0)) (m ((c.tc : Thread nD τ).loc main_arg4)) (m ((c.tc : Thread nD τ).loc main_arg5)))
            (m ((c.tc : Thread nD τ).loc main_arg1)))) (m ((c.tc : Thread nD τ).loc main_arg1))))
        (m ((c.tc : Thread nD τ).loc main_arg8)) (m ((c.tc : Thread nD τ).loc main_arg9)) := rfl

/-- A layer without bias at an index. -/
theorem layer_at (x : FVec Ideal S1x2048x1024 .f32) (w : FVec Ideal S1024x1024 .f32) (b : FVec Ideal S1024 .f32)
    (hb : ∀ i, b i = (0 : EReal)) (s : Fin 2048) (h : Fin 16) (d : Fin 64) :
    (layer x w b (ix4 (0 : Fin 1) s h d) : EReal)
      = proj (fun s e => x (ix3 0 s e)) (fun r e => w (ix2 r e)) s ⟨h.val * 64 + d.val, by omega⟩ := by
  pointwise [layer]
  simp only [hb, add_zero]
  rfl

/-- The scores without an attention mask at an index. -/
theorem scores_at (q k : FVec Ideal S1x2048x16x64 .f32) (a : FVec Ideal S1x1x1x2048 .f32) (ha : ∀ i, a i = (0 : EReal))
    (h : Fin 16) (i j : Fin 2048) :
    (scores q k a (ix4 (0 : Fin 1) h i j) : EReal)
      = if Near i.val j.val then ∑ d : Fin 64, q (ix4 0 i h d) * ((1 / 8 : ℝ) : EReal) * k (ix4 0 j h d) else ⊥ := by
  pointwise [scores, band, row]
  simp only [ha, add_zero, ne_eq, not_true_eq_false, if_false, near_select, div_sqrt_64, constant_neg_inf]

/-- The greatest score of a row. -/
theorem top_at (s : FVec Ideal S1x16x2048x2048 .f32) (h : Fin 16) (i : Fin 2048) :
    (top s (ix3 (0 : Fin 1) h i) : EReal) = greatest fun k : Fin 2048 => (s (ix4 0 h i k) : EReal) := by
  unfold greatest
  rw [← ofBits_neg_inf]
  pointwise [top]

/-- The exponentials at an index. -/
theorem weights_at (s : FVec Ideal S1x16x2048x2048 .f32) (g : FVec Ideal S1x16x2048 .f32) (h : Fin 16) (i j : Fin 2048) :
    (weights s g (ix4 (0 : Fin 1) h i j) : EReal) = Ideal.exp ((s (ix4 0 h i j) : EReal) - g (ix3 0 h i)) := by
  pointwise [weights]
  rw [ofBits_neg_inf, max_eq_right bot_le]

/-- The exponentials less the greatest at an index. -/
theorem soft_at (s : FVec Ideal S1x16x2048x2048 .f32) (f : Fin 2048 → EReal) (h : Fin 16) (i : Fin 2048)
    (hf : ∀ k, (s (ix4 0 h i k) : EReal) = f k) (j : Fin 2048) :
    (soft s (ix4 (0 : Fin 1) h i j) : EReal) = weight f j := by
  have hfun : (fun k : Fin 2048 => (s (ix4 0 h i k) : EReal)) = f := funext hf
  unfold soft weight
  rw [weights_at s (top s) h i j, top_at s h i, hfun, hf j]

/-- The quotients without an attention mask at an index. -/
theorem probs_at (w : FVec Ideal S1x16x2048x2048 .f32) (a : FVec Ideal S1x1x1x2048 .f32) (ha : ∀ i, a i = (0 : EReal))
    (h : Fin 16) (i j : Fin 2048) :
    (probs w a (ix4 (0 : Fin 1) h i j) : EReal) = Ideal.div (w (ix4 0 h i j)) (∑ k : Fin 2048, (w (ix4 0 h i k) : EReal)) := by
  pointwise [probs, row]
  simp only [ha, lt_self_iff_false, if_false]

/-- The weighted values at an index. -/
theorem head_at (v : FVec Ideal S1x2048x16x64 .f32) (p : FVec Ideal S1x16x2048x2048 .f32) (q : Fin 2048) (e : Fin 1024) :
    (heads v p (ix3 (0 : Fin 1) q e) : EReal)
      = ∑ k : Fin 2048, v (ix4 0 k ⟨e.val / 64, by omega⟩ ⟨e.val % 64, by omega⟩) * p (ix4 0 ⟨e.val / 64, by omega⟩ q k) := by
  pointwise [heads]

/-- The output layer without bias at an index. -/
theorem output_at (x : FVec Ideal S1x2048x1024 .f32) (w : FVec Ideal S1024x1024 .f32) (b : FVec Ideal S1024 .f32)
    (hb : ∀ i, b i = (0 : EReal)) (q : Fin 2048) (o : Fin 1024) :
    (output x w b (ix3 (0 : Fin 1) q o) : EReal) = ∑ e : Fin 1024, x (ix3 0 q e) * w (ix2 o e) := by
  pointwise [output]
  simp only [hb, add_zero]

end Cert.ReferenceIdeal.Hand

end
-- ==== Proof.RValue.lean ====
module

public import proofs.«01_k».proof.Proof.RStages

@[expose] public section

/-! The reference's result on the extended reals: the attention of the tokens. -/

set_option maxRecDepth 16384

noncomputable section

namespace Cert.ReferenceIdeal.Hand

open Idealize.ShloMosaic Idealize.SL Idealize.SL.Sem Idealize.ShloMosaic.Tactic Idealize.ShloMosaic.TcCoe
open Cert.ReferenceIdeal.Value Cert.Attn

variable (m : (ℓ : Loc nD τ sig) → Buf (Elt Ideal) ℓ) (c : Dev nD)

/-- The tokens. -/
def tok (s : Fin 2048) (e : Fin 1024) : EReal := m ((c.tc : Thread nD τ).loc main_arg0) (ix3 (0 : Fin 1) s e)

/-- The query weight. -/
def wQ (r e : Fin 1024) : EReal := m ((c.tc : Thread nD τ).loc main_arg2) (ix2 r e)

/-- The key weight. -/
def wK (r e : Fin 1024) : EReal := m ((c.tc : Thread nD τ).loc main_arg4) (ix2 r e)

/-- The value weight. -/
def wV (r e : Fin 1024) : EReal := m ((c.tc : Thread nD τ).loc main_arg6) (ix2 r e)

/-- The output weight. -/
def wO (r e : Fin 1024) : EReal := m ((c.tc : Thread nD τ).loc main_arg8) (ix2 r e)

/-- With the mask and the biases zero the reference's result at an index is the attention layer. -/
theorem result_at (h1 : ∀ i, m ((c.tc : Thread nD τ).loc main_arg1) i = (0 : EReal))
    (h3 : ∀ i, m ((c.tc : Thread nD τ).loc main_arg3) i = (0 : EReal))
    (h5 : ∀ i, m ((c.tc : Thread nD τ).loc main_arg5) i = (0 : EReal))
    (h7 : ∀ i, m ((c.tc : Thread nD τ).loc main_arg7) i = (0 : EReal))
    (h9 : ∀ i, m ((c.tc : Thread nD τ).loc main_arg9) i = (0 : EReal)) (b : Fin 1) (q : Fin 2048) (o : Fin 1024) :
    (res_main_v63 (F := Ideal) m c (ix3 b q o) : EReal) = attention (tok m c) (wQ m c) (wK m c) (wV m c) (wO m c) q o := by
  obtain rfl : b = 0 := Subsingleton.elim _ _
  rw [res_eq m c]
  refine (output_at _ _ _ h9 q o).trans (Finset.sum_congr rfl fun e _ => ?_)
  refine congrArg (fun a : EReal => a * wO m c o e) ?_
  unfold context mean
  refine (head_at _ _ q e).trans (Finset.sum_congr rfl fun k _ => ?_)
  have hl : ∀ d, (⟨e.val / 64, by omega⟩ : Fin 16).val * 64 + d = e.val / 64 * 64 + d := fun d => rfl
  have hsc : ∀ k, scores (layer (m ((c.tc : Thread nD τ).loc main_arg0)) (m ((c.tc : Thread nD τ).loc main_arg2)) (m ((c.tc : Thread nD τ).loc main_arg3)))
        (layer (m ((c.tc : Thread nD τ).loc main_arg0)) (m ((c.tc : Thread nD τ).loc main_arg4)) (m ((c.tc : Thread nD τ).loc main_arg5)))
        (m ((c.tc : Thread nD τ).loc main_arg1)) (ix4 0 ⟨e.val / 64, by omega⟩ q k)
      = seen (tok m c) (wQ m c) (wK m c) e q k := fun k => by
    refine (scores_at _ _ _ h1 _ q k).trans (if_congr Iff.rfl (Finset.sum_congr rfl fun d _ => ?_) rfl)
    exact congrArg₂ (fun a b : EReal => a * ((1 / 8 : ℝ) : EReal) * b) (layer_at _ _ _ h3 q _ d) (layer_at _ _ _ h5 k _ d)
  refine congrArg₂ (fun a b : EReal => a * b) ((layer_at _ _ _ h7 k _ _).trans ?_) ((probs_at _ _ h1 _ q k).trans ?_)
  · refine congrArg (proj (tok m c) (wV m c) k) (Fin.ext ?_)
    show e.val / 64 * 64 + e.val % 64 = e.val
    omega
  · exact congrArg₂ Ideal.div (soft_at _ _ _ q hsc k) (Finset.sum_congr rfl fun j _ => soft_at _ _ _ q hsc j)

end Cert.ReferenceIdeal.Hand

end
-- ==== Proof.Value.lean ====
module

public import proofs.«01_k».proof.Defs
public import proofs.«01_k».proof.Proof.Gen.Pre_plain_inputs
public import proofs.«01_k».proof.Proof.Pre
public import proofs.«01_k».proof.Proof.KValue
public import proofs.«01_k».proof.Proof.RValue

@[expose] public section

/-! The kernel and the reference end with the same result. -/

set_option maxRecDepth 16384

noncomputable section

namespace Cert.Hand

open Idealize.ShloMosaic Idealize.SL Idealize.SL.Sem Idealize.ShloMosaic.TcCoe Cert.Attn

/-- From plain inputs that agree, the reference's result is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_plain_inputs m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v63 (F := Ideal) m' c
      = broadcastInDim Cert.KernelIdeal.S1x2048x1024 ![1, 2] Cert.KernelIdeal.Gen.bcast_S2048x1024_S1x2048x1024_1_2 (Cert.KernelIdeal.Hand.whole m c) := by
  obtain ⟨e0, e1, e2, e3, e4, e5, e6, e7, e8, e9⟩ := e
  have P := Cert.Pre_plain_inputs.Hand.plain _ _ _ _ _ _ _ _ _ _ ix0 (congrFun (hpre c) ix0)
  funext j
  rw [eq_ix3 j]
  refine (Cert.ReferenceIdeal.Hand.result_at m' c (fun i => (congrFun e1 i).trans (P.z1 i)) (fun i => (congrFun e3 i).trans (P.z3 i))
    (fun i => (congrFun e5 i).trans (P.z5 i)) (fun i => (congrFun e7 i).trans (P.z7 i)) (fun i => (congrFun e9 i).trans (P.z9 i)) _ _ _).trans ?_
  refine Eq.trans ?_ (Cert.KernelIdeal.Hand.result_at m c (fun s r => P.r0 _) (fun r s => P.r2 _) (fun r s => P.r4 _) _ _ _).symm
  have t0 : Cert.ReferenceIdeal.Hand.tok m' c = Cert.KernelIdeal.Hand.tok m c := funext fun _ => funext fun _ => congrFun e0 _
  have t2 : Cert.ReferenceIdeal.Hand.wQ m' c = Cert.KernelIdeal.Hand.wQ m c := funext fun _ => funext fun _ => congrFun e2 _
  have t4 : Cert.ReferenceIdeal.Hand.wK m' c = Cert.KernelIdeal.Hand.wK m c := funext fun _ => funext fun _ => congrFun e4 _
  have t6 : Cert.ReferenceIdeal.Hand.wV m' c = Cert.KernelIdeal.Hand.wV m c := funext fun _ => funext fun _ => congrFun e6 _
  have t8 : Cert.ReferenceIdeal.Hand.wO m' c = Cert.KernelIdeal.Hand.wO m c := funext fun _ => funext fun _ => congrFun e8 _
  rw [t0, t2, t4, t6, t8]

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_plain_inputs
public import proofs.«01_k».proof.Proof.KFrame
public import proofs.«01_k».proof.Proof.RFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_plain_inputs.Gen.facts,
  fun m g _ => Cert.Kernel.Hand.frame m g,
  fun m g _ => (θ_run _ _ _).mono (fun _ h => ⟨fun c => (h.1 c).2, h.2⟩) (Cert.KernelIdeal.Hand.kernel_run m g),
  fun m g _ => (θ_run _ _ _).mono (fun _ h => ⟨fun c => (h.1 c).2, h.2⟩) (Cert.KernelIdeal.Hand.kernel_run m g),
  fun m g _ => (θ_run _ _ _).mono (fun _ h => ⟨fun c => (h.1 c).2, h.2⟩) (Cert.ReferenceIdeal.Hand.reference_run m g),
  fun m g _ => (θ_run _ _ _).mono (fun _ h => ⟨fun c => (h.1 c).2, h.2⟩) (Cert.ReferenceIdeal.Hand.reference_run m g),
  IdealRules.named_const.statement Cert.KernelIdeal.κ "mask" .f32 0xCE6E6B28#32 ⊥ rfl,
  fun m g m' g' hpre hargs => ⟨fun c => Cert.ReferenceIdeal.Value.res_main_v63 m' c,
    (θ_run _ _ _).mono (fun _ h c => ⟨(h.1 c).1.trans (Cert.Hand.value_eq m m' hpre c (hargs c)).symm, (h.1 c).2⟩) (Cert.KernelIdeal.Hand.kernel_run m g),
    (θ_run _ _ _).mono (fun _ h c => h.1 c) (Cert.ReferenceIdeal.Hand.reference_run m' g')⟩⟩

end Cert.Proof

end
